-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_value_scales_finite [hPre_value_scales_finite : Cert.Pre_value_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_value_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_value_scales_finite [hPre_value_scales_finite : Cert.Pre_value_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_value_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_value_scales_finite [hKernelIdeal : Cert.KernelIdeal.Facts] [hPre_value_scales_finite : Cert.Pre_value_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_value_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_value_scales_finite [hReferenceIdeal : Cert.ReferenceIdeal.Facts] [hPre_value_scales_finite : Cert.Pre_value_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_value_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_value_scales_finite [hKernelIdeal : Cert.KernelIdeal.Facts] [hReferenceIdeal : Cert.ReferenceIdeal.Facts] [hPre_value_scales_finite : Cert.Pre_value_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_value_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_value_scales_finite : Cert.Pre_value_scales_finite.Facts),
    quiescent_Kernel (hKernel := hKernel)
    ∧ quiescent_KernelIdeal (hKernelIdeal := hKernelIdeal)
    ∧ quiescent_KernelIdeal_pre_value_scales_finite (hKernelIdeal := hKernelIdeal) (hPre_value_scales_finite := hPre_value_scales_finite)
    ∧ quiescent_ReferenceIdeal (hReferenceIdeal := hReferenceIdeal)
    ∧ quiescent_ReferenceIdeal_pre_value_scales_finite (hReferenceIdeal := hReferenceIdeal) (hPre_value_scales_finite := hPre_value_scales_finite)
    ∧ preserves_Kernel_KernelIdeal
    ∧ algebraic_KernelIdeal_ReferenceIdeal_pre_value_scales_finite (hKernelIdeal := hKernelIdeal) (hReferenceIdeal := hReferenceIdeal) (hPre_value_scales_finite := hPre_value_scales_finite)
-- ==== Pre_value_scales_finite.lean ====
abbrev S64x1x4096 : Shape := ⟨3, ![64, 1, 4096]⟩
abbrev S64x1x4x128 : Shape := ⟨4, ![64, 1, 4, 128]⟩
abbrev S64x16384x4x128 : Shape := ⟨4, ![64, 16384, 4, 128]⟩
abbrev S64x16384x4 : Shape := ⟨3, ![64, 16384, 4]⟩
abbrev S_ : Shape := ⟨0, ![]⟩

class Facts : Prop where
  bcast_S_S64x16384x4 : S_.BroadcastsInDim S64x16384x4 (![] : Fin 0 → Fin S64x16384x4.rank)

variable [Facts]

def fn {F : FTy → Type} [FloatOps F] (main_arg0 : FVec F S64x1x4096 .bf16) (main_arg1 : FVec F S64x1x4x128 .bf16) (main_arg2 : FVec F S64x1x4x128 .bf16) (main_arg3 : IVec S64x16384x4x128 8) (main_arg4 : FVec F S64x16384x4 .f32) (main_arg5 : IVec S64x16384x4x128 8) (main_arg6 : FVec F S64x16384x4 .f32) : IVec S64x16384x4 1 :=
  let main_v0 : FVec F S64x16384x4 .f32 := Host.absf main_arg6
  let main_cst : FVec F S_ .f32 := constant S_ .f32 0x7F800000#32
  let main_v1 : FVec F S64x16384x4 .f32 := broadcastInDim S64x16384x4 ![] bcast_S_S64x16384x4 main_cst
  let main_v2 : IVec S64x16384x4 1 := cmpf .olt main_v0 main_v1
  main_v2
-- ==== Kernel.lean ====
abbrev S64x1x4096 : Shape := ⟨3, ![64, 1, 4096]⟩
abbrev S64x1x4x128 : Shape := ⟨4, ![64, 1, 4, 128]⟩
abbrev S64x16384x4x128 : Shape := ⟨4, ![64, 16384, 4, 128]⟩
abbrev S64x16384x4 : Shape := ⟨3, ![64, 16384, 4]⟩
abbrev S64x32x128 : Shape := ⟨3, ![64, 32, 128]⟩
abbrev S64x4x128 : Shape := ⟨3, ![64, 4, 128]⟩
abbrev S64x65536x128 : Shape := ⟨3, ![64, 65536, 128]⟩
abbrev S64x4x16384 : Shape := ⟨3, ![64, 4, 16384]⟩
abbrev S64x4x1 : Shape := ⟨3, ![64, 4, 1]⟩
abbrev S1x32x128 : Shape := ⟨3, ![1, 32, 128]⟩
abbrev S1x4x128 : Shape := ⟨3, ![1, 4, 128]⟩
abbrev S1x8192x128 : Shape := ⟨3, ![1, 8192, 128]⟩
abbrev S1x4x2048 : Shape := ⟨3, ![1, 4, 2048]⟩
abbrev S1x4x1 : Shape := ⟨3, ![1, 4, 1]⟩
abbrev S32x512 : Shape := ⟨2, ![32, 512]⟩
abbrev S32x2048 : Shape := ⟨2, ![32, 2048]⟩
abbrev S32x1 : Shape := ⟨2, ![32, 1]⟩
abbrev S128x512 : Shape := ⟨2, ![128, 512]⟩
abbrev S32x128 : Shape := ⟨2, ![32, 128]⟩
abbrev S1x1024x128 : Shape := ⟨3, ![1, 1024, 128]⟩
abbrev S1024x128 : Shape := ⟨2, ![1024, 128]⟩
abbrev S256x128 : Shape := ⟨2, ![256, 128]⟩
abbrev S128x256 : Shape := ⟨2, ![128, 256]⟩
abbrev S512x256 : Shape := ⟨2, ![512, 256]⟩
abbrev S1x4x256 : Shape := ⟨3, ![1, 4, 256]⟩
abbrev S4x256 : Shape := ⟨2, ![4, 256]⟩
abbrev S16x256 : Shape := ⟨2, ![16, 256]⟩
abbrev S32x16x256 : Shape := ⟨3, ![32, 16, 256]⟩
abbrev S1x16x256 : Shape := ⟨3, ![1, 16, 256]⟩
abbrev S32x256 : Shape := ⟨2, ![32, 256]⟩
abbrev S32 : Shape := ⟨1, ![32]⟩
abbrev S4x128 : Shape := ⟨2, ![4, 128]⟩
abbrev S4 : Shape := ⟨1, ![4]⟩
abbrev S4x1 : Shape := ⟨2, ![4, 1]⟩
abbrev S32x4 : Shape := ⟨2, ![32, 4]⟩

abbrev nBuf : Space → Nat
  | .hbm => 19
  | .vmem => 29
  | .smem => 0
  | _ => 0

abbrev bufTy : (tb : Table) → Fin (tcTables nBuf tb) → BufTy
  | .hbm, ⟨0, _⟩ => ⟨S64x1x4096, .bf16⟩
  | .hbm, ⟨1, _⟩ => ⟨S64x1x4x128, .bf16⟩
  | .hbm, ⟨2, _⟩ => ⟨S64x1x4x128, .bf16⟩
  | .hbm, ⟨3, _⟩ => ⟨S64x16384x4x128, .i8⟩
  | .hbm, ⟨4, _⟩ => ⟨S64x16384x4, .f32⟩
  | .hbm, ⟨5, _⟩ => ⟨S64x16384x4x128, .i8⟩
  | .hbm, ⟨6, _⟩ => ⟨S64x16384x4, .f32⟩
  | .hbm, ⟨7, _⟩ => ⟨S64x32x128, .bf16⟩
  | .hbm, ⟨8, _⟩ => ⟨S64x4x128, .bf16⟩
  | .hbm, ⟨9, _⟩ => ⟨S64x4x128, .bf16⟩
  | .hbm, ⟨10, _⟩ => ⟨S64x65536x128, .i8⟩
  | .hbm, ⟨11, _⟩ => ⟨S64x65536x128, .i8⟩
  | .hbm, ⟨12, _⟩ => ⟨S64x4x16384, .f32⟩
  | .hbm, ⟨13, _⟩ => ⟨S64x4x16384, .f32⟩
  | .hbm, ⟨14, _⟩ => ⟨S64x32x128, .bf16⟩
  | .hbm, ⟨15, _⟩ => ⟨S64x4x128, .i8⟩
  | .hbm, ⟨16, _⟩ => ⟨S64x4x1, .f32⟩
  | .hbm, ⟨17, _⟩ => ⟨S64x4x128, .i8⟩
  | .hbm, ⟨18, _⟩ => ⟨S64x4x1, .f32⟩
  | .local _ .vmem, ⟨0, _⟩ => ⟨S1x32x128, .bf16⟩
  | .local _ .vmem, ⟨1, _⟩ => ⟨S1x32x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S1x8192x128, .i8⟩
  | .local _ .vmem, ⟨7, _⟩ => ⟨S1x8192x128, .i8⟩
  | .local _ .vmem, ⟨8, _⟩ => ⟨S1x4x2048, .f32⟩
  | .local _ .vmem, ⟨9, _⟩ => ⟨S1x4x2048, .f32⟩
  | .local _ .vmem, ⟨10, _⟩ => ⟨S1x8192x128, .i8⟩
  | .local _ .vmem, ⟨11, _⟩ => ⟨S1x8192x128, .i8⟩
  | .local _ .vmem, ⟨12, _⟩ => ⟨S1x4x2048, .f32⟩
  | .local _ .vmem, ⟨13, _⟩ => ⟨S1x4x2048, .f32⟩
  | .local _ .vmem, ⟨14, _⟩ => ⟨S1x32x128, .bf16⟩
  | .local _ .vmem, ⟨15, _⟩ => ⟨S1x32x128, .bf16⟩
  | .local _ .vmem, ⟨16, _⟩ => ⟨S1x4x128, .i8⟩
  | .local _ .vmem, ⟨17, _⟩ => ⟨S1x4x128, .i8⟩
  | .local _ .vmem, ⟨18, _⟩ => ⟨S1x4x1, .f32⟩
  | .local _ .vmem, ⟨19, _⟩ => ⟨S1x4x1, .f32⟩
  | .local _ .vmem, ⟨20, _⟩ => ⟨S1x4x128, .i8⟩
  | .local _ .vmem, ⟨21, _⟩ => ⟨S1x4x128, .i8⟩
  | .local _ .vmem, ⟨22, _⟩ => ⟨S1x4x1, .f32⟩
  | .local _ .vmem, ⟨23, _⟩ => ⟨S1x4x1, .f32⟩
  | .local _ .vmem, ⟨24, _⟩ => ⟨S32x512, .bf16⟩
  | .local _ .vmem, ⟨25, _⟩ => ⟨S32x2048, .f32⟩
  | .local _ .vmem, ⟨26, _⟩ => ⟨S32x1, .f32⟩
  | .local _ .vmem, ⟨27, _⟩ => ⟨S32x1, .f32⟩
  | .local _ .vmem, ⟨28, _⟩ => ⟨S32x512, .f32⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v426 : BitVec 1 := Scalar.cmpi .eq arg1 c7_i32
  let v427 : BitVec 32 := Scalar.extui v426
  let c0_i32_176 : BitVec 32 := 0#32
  let v428 : BitVec 1 := Scalar.cmpi .ne v427 c0_i32_176
  v428

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S64x1x4096 : Shape := ⟨3, ![64, 1, 4096]⟩
abbrev S64x1x4x128 : Shape := ⟨4, ![64, 1, 4, 128]⟩
abbrev S64x16384x4x128 : Shape := ⟨4, ![64, 16384, 4, 128]⟩
abbrev S64x16384x4 : Shape := ⟨3, ![64, 16384, 4]⟩
abbrev S_ : Shape := ⟨0, ![]⟩
abbrev S64x1x4 : Shape := ⟨3, ![64, 1, 4]⟩
abbrev S64x1x4x1 : Shape := ⟨4, ![64, 1, 4, 1]⟩
abbrev S64x1x4x8x128 : Shape := ⟨5, ![64, 1, 4, 8, 128]⟩
abbrev S64x16384x4x1 : Shape := ⟨4, ![64, 16384, 4, 1]⟩
abbrev S64x16385x4x128 : Shape := ⟨4, ![64, 16385, 4, 128]⟩
abbrev S64x4x1x8x16385 : Shape := ⟨5, ![64, 4, 1, 8, 16385]⟩
abbrev S16385 : Shape := ⟨1, ![16385]⟩
abbrev S1x16385 : Shape := ⟨2, ![1, 16385]⟩
abbrev S1 : Shape := ⟨1, ![1]⟩
abbrev S1x1 : Shape := ⟨2, ![1, 1]⟩
abbrev S1x1x1x1x16385 : Shape := ⟨5, ![1, 1, 1, 1, 16385]⟩
abbrev S64x4x1x8 : Shape := ⟨4, ![64, 4, 1, 8]⟩
abbrev S64x4x1x8x1 : Shape := ⟨5, ![64, 4, 1, 8, 1]⟩
abbrev S64x4x1x8x128 : Shape := ⟨5, ![64, 4, 1, 8, 128]⟩
abbrev S64x32x128 : Shape := ⟨3, ![64, 32, 128]⟩
abbrev S64x4x128 : Shape := ⟨3, ![64, 4, 128]⟩
abbrev S64x4x1 : Shape := ⟨3, ![64, 4, 1]⟩

abbrev nBuf : Space → Nat
  | .hbm => 127
  | .vmem => 0
  | .smem => 0
  | _ => 0

abbrev bufTy : (tb : Table) → Fin (tcTables nBuf tb) → BufTy
  | .hbm, ⟨0, _⟩ => ⟨S64x1x4096, .bf16⟩
  | .hbm, ⟨1, _⟩ => ⟨S64x1x4x128, .bf16⟩
  | .hbm, ⟨2, _⟩ => ⟨S64x1x4x128, .bf16⟩
  | .hbm, ⟨3, _⟩ => ⟨S64x16384x4x128, .i8⟩
  | .hbm, ⟨4, _⟩ => ⟨S64x16384x4, .f32⟩
  | .hbm, ⟨5, _⟩ => ⟨S64x16384x4x128, .i8⟩
  | .hbm, ⟨6, _⟩ => ⟨S64x16384x4, .f32⟩
  | .hbm, ⟨7, _⟩ => ⟨S64x1x4x128, .f32⟩
  | .hbm, ⟨8, _⟩ => ⟨S64x1x4x128, .f32⟩
  | .hbm, ⟨9, _⟩ => ⟨S_, .f32⟩
  | .hbm, ⟨10, _⟩ => ⟨S64x1x4, .f32⟩
  | .hbm, ⟨11, _⟩ => ⟨S_, .f32⟩
  | .hbm, ⟨12, _⟩ => ⟨S64x1x4, .f32⟩
  | .hbm, ⟨13, _⟩ => ⟨S64x1x4, .i1⟩
  | .hbm, ⟨14, _⟩ => ⟨S_, .f32⟩
  | .hbm, ⟨15, _⟩ => ⟨S64x1x4, .f32⟩
  | .hbm, ⟨16, _⟩ => ⟨S64x1x4, .f32⟩
  | .hbm, ⟨17, _⟩ => ⟨S_, .f32⟩
  | .hbm, ⟨18, _⟩ => ⟨S64x1x4, .f32⟩
  | .hbm, ⟨19, _⟩ => ⟨S64x1x4, .f32⟩
  | .hbm, ⟨20, _⟩ => ⟨S64x1x4x1, .f32⟩
  | .hbm, ⟨21, _⟩ => ⟨S64x1x4x128, .f32⟩
  | .hbm, ⟨22, _⟩ => ⟨S64x1x4x128, .f32⟩
  | .hbm, ⟨23, _⟩ => ⟨S64x1x4x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x1x4x128, .f32⟩
  | .hbm, ⟨28, _⟩ => ⟨S64x1x4x128, .f32⟩
  | .hbm, ⟨29, _⟩ => ⟨S_, .f32⟩
  | .hbm, ⟨30, _⟩ => ⟨S64x1x4x128, .f32⟩
  | .hbm, ⟨31, _⟩ => ⟨S64x1x4x128, .f32⟩
  | .hbm, ⟨32, _⟩ => ⟨S64x1x4x128, .i32⟩
  | .hbm, ⟨33, _⟩ => ⟨S64x1x4x128, .i8⟩
  | .hbm, ⟨34, _⟩ => ⟨S64x1x4x128, .f32⟩
  | .hbm, ⟨35, _⟩ => ⟨S64x1x4x128, .f32⟩
  | .hbm, ⟨36, _⟩ => ⟨S_, .f32⟩
  | .hbm, ⟨37, _⟩ => ⟨S64x1x4, .f32⟩
  | .hbm, ⟨38, _⟩ => ⟨S_, .f32⟩
  | .hbm, ⟨39, _⟩ => ⟨S64x1x4, .f32⟩
  | .hbm, ⟨40, _⟩ => ⟨S64x1x4, .i1⟩
  | .hbm, ⟨41, _⟩ => ⟨S_, .f32⟩
  | .hbm, ⟨42, _⟩ => ⟨S64x1x4, .f32⟩
  | .hbm, ⟨43, _⟩ => ⟨S64x1x4, .f32⟩
  | .hbm, ⟨44, _⟩ => ⟨S_, .f32⟩
  | .hbm, ⟨45, _⟩ => ⟨S64x1x4, .f32⟩
  | .hbm, ⟨46, _⟩ => ⟨S64x1x4, .f32⟩
  | .hbm, ⟨47, _⟩ => ⟨S64x1x4x1, .f32⟩
  | .hbm, ⟨48, _⟩ => ⟨S64x1x4x128, .f32⟩
  | .hbm, ⟨49, _⟩ => ⟨S64x1x4x128, .f32⟩
  | .hbm, ⟨50, _⟩ => ⟨S64x1x4x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64x1x4x128, .f32⟩
  | .hbm, ⟨55, _⟩ => ⟨S64x1x4x128, .f32⟩
  | .hbm, ⟨56, _⟩ => ⟨S_, .f32⟩
  | .hbm, ⟨57, _⟩ => ⟨S64x1x4x128, .f32⟩
  | .hbm, ⟨58, _⟩ => ⟨S64x1x4x128, .f32⟩
  | .hbm, ⟨59, _⟩ => ⟨S64x1x4x128, .i32⟩
  | .hbm, ⟨60, _⟩ => ⟨S64x1x4x128, .i8⟩
  | .hbm, ⟨61, _⟩ => ⟨S64x1x4x8x128, .bf16⟩
  | .hbm, ⟨62, _⟩ => ⟨S64x16384x4x128, .i32⟩
  | .hbm, ⟨63, _⟩ => ⟨S64x16384x4x128, .bf16⟩
  | .hbm, ⟨64, _⟩ => ⟨S64x16384x4, .bf16⟩
  | .hbm, ⟨65, _⟩ => ⟨S64x16384x4x1, .bf16⟩
  | .hbm, ⟨66, _⟩ => ⟨S64x16384x4x128, .bf16⟩
  | .hbm, ⟨67, _⟩ => ⟨S64x16384x4x128, .bf16⟩
  | .hbm, ⟨68, _⟩ => ⟨S64x1x4x128, .i32⟩
  | .hbm, ⟨69, _⟩ => ⟨S64x1x4x128, .bf16⟩
  | .hbm, ⟨70, _⟩ => ⟨S64x1x4, .bf16⟩
  | .hbm, ⟨71, _⟩ => ⟨S64x1x4x1, .bf16⟩
  | .hbm, ⟨72, _⟩ => ⟨S64x1x4x128, .bf16⟩
  | .hbm, ⟨73, _⟩ => ⟨S64x1x4x128, .bf16⟩
  | .hbm, ⟨74, _⟩ => ⟨S64x16385x4x128, .bf16⟩
  | .hbm, ⟨75, _⟩ => ⟨S64x16384x4x128, .i32⟩
  | .hbm, ⟨76, _⟩ => ⟨S64x16384x4x128, .bf16⟩
  | .hbm, ⟨77, _⟩ => ⟨S64x16384x4, .bf16⟩
  | .hbm, ⟨78, _⟩ => ⟨S64x16384x4x1, .bf16⟩
  | .hbm, ⟨79, _⟩ => ⟨S64x16384x4x128, .bf16⟩
  | .hbm, ⟨80, _⟩ => ⟨S64x16384x4x128, .bf16⟩
  | .hbm, ⟨81, _⟩ => ⟨S64x1x4x128, .i32⟩
  | .hbm, ⟨82, _⟩ => ⟨S64x1x4x128, .bf16⟩
  | .hbm, ⟨83, _⟩ => ⟨S64x1x4, .bf16⟩
  | .hbm, ⟨84, _⟩ => ⟨S64x1x4x1, .bf16⟩
  | .hbm, ⟨85, _⟩ => ⟨S64x1x4x128, .bf16⟩
  | .hbm, ⟨86, _⟩ => ⟨S64x1x4x128, .bf16⟩
  | .hbm, ⟨87, _⟩ => ⟨S64x16385x4x128, .bf16⟩
  | .hbm, ⟨88, _⟩ => ⟨S64x4x1x8x16385, .f32⟩
  | .hbm, ⟨89, _⟩ => ⟨S_, .f32⟩
  | .hbm, ⟨90, _⟩ => ⟨S64x4x1x8x16385, .f32⟩
  | .hbm, ⟨91, _⟩ => ⟨S64x4x1x8x16385, .f32⟩
  | .hbm, ⟨92, _⟩ => ⟨S16385, .i32⟩
  | .hbm, ⟨93, _⟩ => ⟨S1x16385, .i32⟩
  | .hbm, ⟨94, _⟩ => ⟨S1, .i32⟩
  | .hbm, ⟨95, _⟩ => ⟨S1x1, .i32⟩
  | .hbm, ⟨96, _⟩ => ⟨S_, .i32⟩
  | .hbm, ⟨97, _⟩ => ⟨S1x1, .i32⟩
  | .hbm, ⟨98, _⟩ => ⟨S1x1, .i32⟩
  | .hbm, ⟨99, _⟩ => ⟨S1x16385, .i32⟩
  | .hbm, ⟨100, _⟩ => ⟨S1x16385, .i1⟩
  | .hbm, ⟨101, _⟩ => ⟨S1x1x1x1x16385, .i1⟩
  | .hbm, ⟨102, _⟩ => ⟨S_, .f32⟩
  | .hbm, ⟨103, _⟩ => ⟨S_, .f32⟩
  | .hbm, ⟨104, _⟩ => ⟨S64x4x1x8x16385, .i1⟩
  | .hbm, ⟨105, _⟩ => ⟨S64x4x1x8x16385, .f32⟩
  | .hbm, ⟨106, _⟩ => ⟨S64x4x1x8x16385, .f32⟩
  | .hbm, ⟨107, _⟩ => ⟨S_, .f32⟩
  | .hbm, ⟨108, _⟩ => ⟨S64x4x1x8, .f32⟩
  | .hbm, ⟨109, _⟩ => ⟨S64x4x1x8x1, .f32⟩
  | .hbm, ⟨110, _⟩ => ⟨S64x4x1x8x16385, .f32⟩
  | .hbm, ⟨111, _⟩ => ⟨S64x4x1x8x16385, .f32⟩
  | .hbm, ⟨112, _⟩ => ⟨S64x4x1x8x16385, .f32⟩
  | .hbm, ⟨113, _⟩ => ⟨S_, .f32⟩
  | .hbm, ⟨114, _⟩ => ⟨S64x4x1x8, .f32⟩
  | .hbm, ⟨115, _⟩ => ⟨S64x16385x4x128, .f32⟩
  | .hbm, ⟨116, _⟩ => ⟨S64x4x1x8x128, .f32⟩
  | .hbm, ⟨117, _⟩ => ⟨S64x4x1x8x1, .f32⟩
  | .hbm, ⟨118, _⟩ => ⟨S64x4x1x8x128, .f32⟩
  | .hbm, ⟨119, _⟩ => ⟨S64x4x1x8x128, .f32⟩
  | .hbm, ⟨120, _⟩ => ⟨S64x1x4x8x128, .f32⟩
  | .hbm, ⟨121, _⟩ => ⟨S64x32x128, .f32⟩
  | .hbm, ⟨122, _⟩ => ⟨S64x32x128, .bf16⟩
  | .hbm, ⟨123, _⟩ => ⟨S64x4x128, .i8⟩
  | .hbm, ⟨124, _⟩ => ⟨S64x4x1, .f32⟩
  | .hbm, ⟨125, _⟩ => ⟨S64x4x128, .i8⟩
  | .hbm, ⟨126, _⟩ => ⟨S64x4x1, .f32⟩
  | _, _ => ⟨S64x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_call3_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]
-- ==== Proof.Dequant.lean ====
/-
  ONE CHUNK OF THE CACHE, DEQUANTIZED AND TRANSPOSED.

  The kernel reads 256 tokens of the cache as 1024 rows of 128 codes: row `4 t + n` holds token `t`, head `n`. It reads four
  rows as one row of 32-bit words, transposes the words and reads them as bytes again: row `4 d + n`, column `t` of the
  result is coordinate `d` of token `t`, head `n` (`codes_t`). `deq` is that matrix as numbers, each times the scale of its
  token and head, and `deq_at` reads it at an index.
-/
module

public import proofs.«01_k».proof.Proof.Gen.KernelIdeal.Skeleton
public import Idealize.ShloMosaic.Lib.Pipeline.ValueKit
public import Idealize.ShloMosaic.Lib.Pointwise
public import Idealize.ShloMosaic.Lib.BitcastFour

@[expose] public section

set_option maxRecDepth 16384

noncomputable section

namespace Cert.KernelIdeal.Attn

open Cert.KernelIdeal Cert.KernelIdeal.Gen Idealize.ShloMosaic Idealize.ShloMosaic.TcCoe Idealize.SL.Sem

/-- 32-bit words read as bytes, at rank 2: bit `q` of byte row `a` is bit `8 (a % 4) + q` of word row `p = a / 4`. -/
theorem bitcast_32_8_getLsbD_ix2 {R r n : Nat} (x : (⟨2, ![R, n]⟩ : Shape).Idx → BitVec 32)
    (h : (⟨2, ![R, n]⟩ : Shape).Bitcasts 32 ⟨2, ![r, n]⟩ 8) (a : Fin r) (l : Fin n) (q : Nat) (hq : q < 8) (p : Fin R)
    (hp : p.val = a.val / 4) :
    (bitcast ⟨2, ![r, n]⟩ 8 x h (ix2 a l)).getLsbD q = (x (ix2 p l)).getLsbD (8 * (a.val % 4) + q) := by
  rw [bitcast_getLsbD x h _ q hq (by decide)]
  have e : ((⟨2, ![r, n]⟩ : Shape).row (ix2 a l)) = a.val := rfl
  have e2 : ((⟨2, ![r, n]⟩ : Shape).row (ix2 a l) * 8 + q) % 32 = 8 * (a.val % 4) + q := by rw [e]; omega
  rw [e2]
  congr 2
  funext c
  match c with
  | ⟨0, _⟩ => exact Fin.ext ((h.srcIdx_row _ _ _ ⟨0, Nat.zero_lt_two⟩ rfl).trans (by rw [e]; show (a.val * 8 + q) / 32 = p.val; omega))
  | ⟨1, _⟩ => exact Fin.ext (h.srcIdx_other _ _ _ ⟨1, Nat.one_lt_two⟩ (by show ¬ 1 + 2 = 2; omega))

/-- The codes of a chunk after the two reinterpretations and the transpose: row `c` holds coordinate `c / 4` of head `c % 4`. -/
theorem codes_t (x : IVec S1024x128 8) (h1 : S1024x128.Bitcasts 8 S256x128 32) (h2 : S256x128.Transposes [1, 0] S128x256)
    (h3 : S128x256.Bitcasts 32 S512x256 8) (c : Fin 512) (t : Fin 256) :
    bitcast S512x256 8 (transpose S128x256 [1, 0] (bitcast S256x128 32 x h1) h2) h3 (ix2 c t)
      = x (ix2 (⟨4 * t.val + c.val % 4, by omega⟩ : Fin 1024) (⟨c.val / 4, by omega⟩ : Fin 128)) := by
  apply BitVec.eq_of_getLsbD_eq
  intro q hq
  rw [bitcast_32_8_getLsbD_ix2 (R := 128) (r := 512) (n := 256) _ h3 c t q hq ⟨c.val / 4, by omega⟩ rfl]
  have ht : transpose S128x256 [1, 0] (bitcast S256x128 32 x h1) h2 (ix2 (⟨c.val / 4, by omega⟩ : Fin 128) t)
      = bitcast S256x128 32 x h1 (ix2 t (⟨c.val / 4, by omega⟩ : Fin 128)) := by pointwise
  rw [ht]
  refine (bitcast_8_32_getLsbD_ix2 (R := 1024) (r := 256) (n := 128) x h1 t ⟨c.val / 4, by omega⟩
    (8 * (c.val % 4) + q) (by omega) ⟨4 * t.val + c.val % 4, by omega⟩ (by show _ = _; simp only; omega)).trans ?_
  show (x (ix2 _ _)).getLsbD _ = _
  congr 1
  omega

/-- One chunk of the cache, dequantized and transposed, as the kernel computes it. -/
def deq (codes : Vec Ideal S1x1024x128 .i8) (sc : Vec Ideal S1x4x256 .f32) : FVec Ideal S512x256 .bf16 :=
  shapeCast S512x256 (mulf (k0_pay39 (F := Ideal) codes) (k0_pay40 (F := Ideal) sc)) shapeCasts_S32x16x256_S512x256

/-- The dequantized chunk at row `c`, token `t`: the code of coordinate `c / 4` of head `c % 4`, times the scale of that head
and token. -/
theorem deq_at (codes : Vec Ideal S1x1024x128 .i8) (sc : Vec Ideal S1x4x256 .f32) (c : Fin 512) (t : Fin 256) :
    deq codes sc (ix2 c t)
      = ((((codes (ix3 0 (⟨4 * t.val + c.val % 4, by omega⟩ : Fin 1024) (⟨c.val / 4, by omega⟩ : Fin 128)) : BitVec 8).toInt : ℝ)) : EReal)
        * (sc (ix3 0 (⟨c.val % 4, by omega⟩ : Fin 4) t) : EReal) := by
  pointwise [deq, k0_pay39, k0_pay40]
  rw [codes_t]
  have hc := c.isLt
  refine congrArg₂ (· * ·) ?_ ?_
  · show ((((_ : BitVec 8).toInt : ℝ)) : EReal) = _
    pointwise
  · split
    · exact congrArg sc (by idx_ext)
    · split
      · exact congrArg sc (by idx_ext)
      · split
        · exact congrArg sc (by idx_ext)
        · exact congrArg sc (by idx_ext)

end Cert.KernelIdeal.Attn
-- ==== Proof.Softmax.lean ====
/-
  THE SOFTMAX OF A SEQUENCE, TAKEN A PIECE AT A TIME, over the extended reals.

  A row of attention has scores `s t` and values `v t`, `t = 0, 1, …`. After the first `n` tokens `top s n` is the largest
  score, `den s n` the sum of the weights `exp (s t - top s n)`, and `num s v n` the weighted sum of the values. The three
  laws `top_add`, `den_add` and `num_add` say what the next `k` tokens do to them: the running sums are rescaled by
  `exp (old top - new top)` and the weights of the new tokens are added. They hold at every extended real: no score
  and no value has to be finite. `num_real` says when the weighted sum is a real number: when the values are.
-/
module

public import Idealize.ShloMosaic.PureOps.Ideal.Laws
public import Mathlib.Tactic.NormNum
public import Mathlib.Data.EReal.Inv
public import Mathlib.Algebra.BigOperators.Fin

@[expose] public section

noncomputable section

namespace Cert.Attn

open Idealize.ShloMosaic

/-- The weight of a score `s` under the maximum `m`. -/
def wt (s m : EReal) : EReal := Ideal.exp (s - m)

/-- The largest of the first `n` scores (`⊥` of none). -/
def top (s : ℕ → EReal) (n : ℕ) : EReal := (Finset.range n).sup s

/-- The sum of the weights of the first `n` scores. -/
def den (s : ℕ → EReal) (n : ℕ) : EReal := ∑ t ∈ Finset.range n, wt (s t) (top s n)

/-- The sum of the first `n` values, each times its weight. -/
def num (s v : ℕ → EReal) (n : ℕ) : EReal := ∑ t ∈ Finset.range n, wt (s t) (top s n) * v t

/-- The exponential is not negative. -/
theorem exp_nonneg (x : EReal) : 0 ≤ Ideal.exp x := by
  induction x with
  | bot => exact le_refl _
  | top => exact le_top
  | coe r => exact EReal.coe_nonneg.2 (Real.exp_pos r).le

/-- A score's weight under a maximum that is at least the score is a real number. -/
theorem wt_real {s m : EReal} (h : s ≤ m) : ∃ r : ℝ, wt s m = r := by
  unfold wt
  induction m with
  | bot => obtain rfl := le_bot_iff.1 h; exact ⟨0, rfl⟩
  | top =>
    induction s with
    | bot => exact ⟨0, rfl⟩
    | top => exact ⟨0, rfl⟩
    | coe r => exact ⟨0, rfl⟩
  | coe b =>
    induction s with
    | bot => exact ⟨0, rfl⟩
    | top => exact absurd h (by simp)
    | coe a => exact ⟨Real.exp (a - b), rfl⟩

/-- A weight is not negative. -/
theorem wt_nonneg (s m : EReal) : 0 ≤ wt s m := exp_nonneg _

/-- Such a weight is below `⊤`. -/
theorem wt_ne_top {s m : EReal} (h : s ≤ m) : wt s m ≠ ⊤ := by
  obtain ⟨r, hr⟩ := wt_real h
  rw [hr]; exact EReal.coe_ne_top r

/-- Rescaling: a weight under `m`, times the weight of `m` under a larger maximum, is the weight under that one. -/
theorem wt_mul_wt {s m m' : EReal} (h : s ≤ m) (h' : m ≤ m') : wt s m * wt m m' = wt s m' := by
  unfold wt
  induction m' with
  | bot =>
    obtain rfl := le_bot_iff.1 h'
    obtain rfl := le_bot_iff.1 h
    show (0 : EReal) * 0 = 0
    simp
  | top =>
    have hz : ∀ x : EReal, Ideal.exp (x - ⊤) = 0 := fun x => by
      induction x with
      | bot => rfl
      | top => rfl
      | coe r => rfl
    rw [hz, hz, mul_zero]
  | coe c =>
    induction m with
    | bot =>
      obtain rfl := le_bot_iff.1 h
      show (0 : EReal) * 0 = 0
      simp
    | top => exact absurd h' (by simp)
    | coe b =>
      induction s with
      | bot => show (0 : EReal) * _ = 0; rw [zero_mul]
      | top => exact absurd h (by simp)
      | coe a =>
        show ((Real.exp (a - b) : ℝ) : EReal) * ((Real.exp (b - c) : ℝ) : EReal) = ((Real.exp (a - c) : ℝ) : EReal)
        rw [← EReal.coe_mul, ← Real.exp_add]
        congr 2; ring

/-- A real factor that is not negative goes inside a sum. -/
theorem sum_mul_of_nonneg {ι : Type*} (S : Finset ι) (f : ι → EReal) (r : EReal) (h0 : 0 ≤ r) (ht : r ≠ ⊤) :
    (∑ i ∈ S, f i) * r = ∑ i ∈ S, f i * r := by
  classical
  induction S using Finset.induction_on with
  | empty => simp
  | insert a S ha ih =>
    rw [Finset.sum_insert ha, Finset.sum_insert ha, EReal.right_distrib_of_nonneg_of_ne_top h0 ht, ih]

/-- Folding `max` from `⊥` is the supremum. -/
theorem fold_max_eq_sup {k : ℕ} (f : Fin k → EReal) : Finset.univ.fold max ⊥ f = Finset.univ.sup f := rfl

/-- The largest score so far only grows. -/
theorem top_mono (s : ℕ → EReal) {n n' : ℕ} (h : n ≤ n') : top s n ≤ top s n' :=
  Finset.sup_mono (Finset.range_mono h)

/-- Each of the first `n` scores is at most their maximum. -/
theorem le_top_of_lt (s : ℕ → EReal) {n t : ℕ} (h : t < n) : s t ≤ top s n := Finset.le_sup (Finset.mem_range.2 h)

/-- No scores: the maximum is `⊥`. -/
theorem top_zero (s : ℕ → EReal) : top s 0 = ⊥ := rfl

/-- No scores: no weight. -/
theorem den_zero (s : ℕ → EReal) : den s 0 = 0 := rfl

/-- No scores: no weighted value. -/
theorem num_zero (s v : ℕ → EReal) : num s v 0 = 0 := rfl

/-- The maximum after `k` more tokens. -/
theorem top_add (s : ℕ → EReal) (n k : ℕ) :
    top s (n + k) = max (top s n) (Finset.univ.fold max ⊥ fun i : Fin k => s (n + i)) := by
  rw [fold_max_eq_sup]
  apply le_antisymm
  · refine Finset.sup_le fun t ht => ?_
    have ht := Finset.mem_range.1 ht
    by_cases h : t < n
    · exact le_max_of_le_left (le_top_of_lt s h)
    · refine le_max_of_le_right ?_
      have := Finset.le_sup (f := fun i : Fin k => s (n + i)) (Finset.mem_univ ⟨t - n, by omega⟩)
      have e : n + (t - n) = t := by omega
      simpa only [e] using this
  · exact max_le (top_mono s (Nat.le_add_right n k))
      (Finset.sup_le fun i _ => le_top_of_lt s (by have := i.isLt; omega))

/-- The weighted values after `k` more tokens: the old sum rescaled, and the new tokens. -/
theorem num_add (s v : ℕ → EReal) (n k : ℕ) :
    num s v (n + k) = num s v n * wt (top s n) (top s (n + k))
      + ∑ i : Fin k, wt (s (n + i)) (top s (n + k)) * v (n + i) := by
  have hm : top s n ≤ top s (n + k) := top_mono s (Nat.le_add_right n k)
  unfold num
  rw [Finset.sum_range_add, sum_mul_of_nonneg _ _ _ (wt_nonneg _ _) (wt_ne_top hm),
    Finset.sum_range (fun x => wt (s (n + x)) (top s (n + k)) * v (n + x))]
  congr 1
  refine Finset.sum_congr rfl fun t ht => ?_
  rw [mul_right_comm, wt_mul_wt (le_top_of_lt s (Finset.mem_range.1 ht)) hm]

/-- The sum of the weights after `k` more tokens. -/
theorem den_add (s : ℕ → EReal) (n k : ℕ) :
    den s (n + k) = den s n * wt (top s n) (top s (n + k)) + ∑ i : Fin k, wt (s (n + i)) (top s (n + k)) := by
  have h := num_add s (fun _ => 1) n k
  simpa only [num, den, mul_one] using h

/-- A weighted sum of values that are real numbers is a real number. -/
theorem num_real (s v : ℕ → EReal) (n : ℕ) (hv : ∀ t, t < n → ∃ r : ℝ, v t = r) : ∃ r : ℝ, num s v n = r := by
  unfold num
  have : ∀ S : Finset ℕ, (∀ t ∈ S, t < n) → ∃ r : ℝ, ∑ t ∈ S, wt (s t) (top s n) * v t = r := by
    intro S
    induction S using Finset.induction_on with
    | empty => intro _; exact ⟨0, by simp⟩
    | insert a S ha ih =>
      intro hS
      obtain ⟨r, hr⟩ := ih fun t ht => hS t (Finset.mem_insert_of_mem ht)
      have hlt := hS a (Finset.mem_insert_self a S)
      obtain ⟨p, hp⟩ := wt_real (le_top_of_lt s hlt)
      obtain ⟨q, hq⟩ := hv a hlt
      exact ⟨p * q + r, by rw [Finset.sum_insert ha, hr, hp, hq, ← EReal.coe_mul, ← EReal.coe_add]⟩
  exact this _ fun t ht => Finset.mem_range.1 ht

/-- The maximum of a row of `n` scores is the fold of `max` over them. -/
theorem top_eq_fold (s : ℕ → EReal) (n : ℕ) : top s n = Finset.univ.fold max ⊥ fun i : Fin n => s i := by
  have h := top_add s 0 n
  simpa only [Nat.zero_add, top_zero, bot_le, max_eq_right] using h

/-- The sum of the weights over a row of `n` scores. -/
theorem den_eq_sum (s : ℕ → EReal) (n : ℕ) : den s n = ∑ i : Fin n, wt (s i) (top s n) := Finset.sum_range _

/-- The weighted sum over a row of `n` scores. -/
theorem num_eq_sum (s v : ℕ → EReal) (n : ℕ) : num s v n = ∑ i : Fin n, wt (s i) (top s n) * v i := Finset.sum_range _

/-- A real number less itself is zero; so a sum split in a leading part and two remainders has remainders zero. -/
theorem split_three (a : EReal) (h : ∃ r : ℝ, a = r) : a - a = 0 ∧ a - a - (a - a) = 0 := by
  obtain ⟨r, rfl⟩ := h
  rw [← EReal.coe_sub, ← EReal.coe_sub]
  simp

/-- The pattern of minus infinity. -/
theorem ofBits_neg_inf : Ideal.ofBits .f32 0xFF800000#32 = (⊥ : EReal) := by
  show Ideal.ieee 8 23 0xFF800000#32 = ⊥
  simp only [Ideal.ieee]
  rw [if_pos (by decide), if_pos (by decide), if_pos (by decide)]

end Cert.Attn
-- ==== Proof.Spec.lean ====
module
public import proofs.«01_k».proof.Proof.Softmax
@[expose] public section
/-!
  One row of the decoding attention, as plain mathematics: the 8-bit quantiser, the cached tokens dequantized, the new
  token quantized and dequantized, the scores, and the softmax-weighted values over all 16385 tokens.
-/
noncomputable section
namespace Cert.Attn
open Idealize.ShloMosaic

/-- The scale of the scores, `1 / sqrt 128` as a 32-bit float. -/
abbrev SM : EReal := Ideal.ofBits .f32 0x3DB504F3#32

/-- The largest magnitude of a row of 128 entries. -/
def amax (x : Fin 128 → EReal) : EReal := Finset.univ.fold max ⊥ fun d : Fin 128 => (FloatOps.absf (F := Ideal) (φ := .f32) (x d) : EReal)

/-- The quantiser's scale: `1` for a row of zeros, else the largest magnitude over 127. -/
def qscale (x : Fin 128 → EReal) : EReal :=
  if amax x = 0 then 1 else Ideal.div (amax x) (Ideal.ofBits .f32 0x42FE0000#32)

/-- The quantised entry, still a real number: rounded to even and clipped to `[-127, 127]`. -/
def qval (x : Fin 128 → EReal) (d : Fin 128) : EReal :=
  min (Ideal.ofBits .f32 0x42FE0000#32) (max (Ideal.ofBits .f32 0xC2FE0000#32) (FloatOps.roundeven (F := Ideal) (φ := .f32) (Ideal.div (x d) (qscale x)) : EReal))

/-- The cached tokens followed by the new one. -/
def seq (c : Fin 16384 → EReal) (new : EReal) (t : ℕ) : EReal := if h : t < 16384 then c ⟨t, h⟩ else new

/-- One coordinate of a cache over all tokens: codes times scales, then the new token's quantised entry times its scale. -/
def deqRow (kc : Fin 16384 → Fin 4 → Fin 128 → BitVec 8) (ks : Fin 16384 → Fin 4 → EReal) (kn : Fin 4 → Fin 128 → EReal)
    (n : Fin 4) (d : Fin 128) : ℕ → EReal :=
  seq (fun t => (((kc t n d).toInt : ℝ) : EReal) * ks t n) (qval (kn n) d * qscale (kn n))

/-- The scores of query head `h`, whose cache head is `h / 8`. -/
def score (q : Fin 32 → Fin 128 → EReal) (kc : Fin 16384 → Fin 4 → Fin 128 → BitVec 8) (ks : Fin 16384 → Fin 4 → EReal)
    (kn : Fin 4 → Fin 128 → EReal) (h : Fin 32) (t : ℕ) : EReal :=
  (∑ d : Fin 128, q h d * deqRow kc ks kn (⟨h.val / 8, by omega⟩ : Fin 4) d t) * SM

/-- The attention's result at query head `h`, coordinate `d`. -/
def attn (q : Fin 32 → Fin 128 → EReal) (kc : Fin 16384 → Fin 4 → Fin 128 → BitVec 8) (ks : Fin 16384 → Fin 4 → EReal)
    (kn : Fin 4 → Fin 128 → EReal) (vc : Fin 16384 → Fin 4 → Fin 128 → BitVec 8) (vs : Fin 16384 → Fin 4 → EReal)
    (vn : Fin 4 → Fin 128 → EReal) (h : Fin 32) (d : Fin 128) : EReal :=
  Ideal.div (num (score q kc ks kn h) (deqRow vc vs vn (⟨h.val / 8, by omega⟩ : Fin 4) d) 16385) (den (score q kc ks kn h) 16385)

end Cert.Attn
-- ==== Proof.Chunk.lean ====
/-
  WHAT ONE GRID POINT COMPUTES FROM ONE BLOCK OF THE CACHE, read at an index.

  The kernel's text writes the same arithmetic out once per chunk of 256 tokens. Here each written-out copy is one function:
  `scores` (a chunk's scores: the queries against the dequantized keys, times the scale of attention) and `addPv` (the
  weights of a chunk against its dequantized values, added to what is there). Then the running maximum, weights, rescaling
  factor and sum of weights of a whole block of 2048 tokens.
-/
module

public import proofs.«01_k».proof.Proof.Dequant
public import proofs.«01_k».proof.Proof.Spec

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- The scores of one chunk. -/
def scores (qx : Vec Ideal S32x512 .bf16) (codes : Vec Ideal S1x1024x128 .i8) (sc : Vec Ideal S1x4x256 .f32) : FVec Ideal S32x256 .f32 :=
  mulf (matmul (φ₁ := .bf16) (φ₂ := .bf16) dot_S32x512_S512x256_S32x256_1_0_0_1_n_n none qx (deq codes sc) (constant S32x256 .f32 0x00000000#32))
    (broadcast S32x256 (Scalar.ofBits .f32 0x3DB504F3#32))

/-- The weights `p` of one chunk against its values, added to `acc`. -/
def addPv (acc : FVec Ideal S32x512 .f32) (p : Vec Ideal S32x256 .f32) (codes : Vec Ideal S1x1024x128 .i8) (sc : Vec Ideal S1x4x256 .f32) :
    FVec Ideal S32x512 .f32 :=
  addf acc (matmul (φ₁ := .f32) (φ₂ := .f32) dot_S32x256_S512x256_S32x512_1_1_0_0_n_n none p (extf .f32 (deq codes sc) bitsLt_bf16_f32) (constant S32x512 .f32 0x00000000#32))

/-- The first chunk's printed terms are `scores`. -/
theorem pay41_eq (qx c s) : k0_pay41 (F := Ideal) qx (k0_pay39 c) (k0_pay40 s) = scores qx c s := by
  unfold k0_pay41 scores deq; exact shapeCast_self _ _
/-- So are a later chunk's. -/
theorem pay42_eq (qx c s) : k0_pay42 (F := Ideal) qx c s = scores qx c s := pay41_eq qx c s
/-- So are a later chunk's. -/
theorem pay45_eq (qx c s) : k0_pay45 (F := Ideal) qx (k0_pay43 c) (k0_pay44 s) = scores qx c s := pay41_eq qx c s
/-- So are a later chunk's. -/
theorem pay46_eq (qx c s) : k0_pay46 (F := Ideal) qx c s = scores qx c s := pay41_eq qx c s
/-- So are a later chunk's. -/
theorem pay48_eq (qx c s) : k0_pay48 (F := Ideal) qx (k0_pay47 c) s = scores qx c s := pay41_eq qx c s
/-- So are a later chunk's. -/
theorem pay49_eq (qx c s) : k0_pay49 (F := Ideal) qx c s = scores qx c s := pay41_eq qx c s
/-- So are a later chunk's. -/
theorem pay51_eq (qx c s) : k0_pay51 (F := Ideal) qx (k0_pay50 c) s = scores qx c s := pay41_eq qx c s
/-- So are a later chunk's. -/
theorem pay52_eq (qx c s) : k0_pay52 (F := Ideal) qx c s = scores qx c s := pay41_eq qx c s

/-- The first two chunks' values. -/
theorem pay61_eq (a c0 s0 p0 c1 s1 p1) :
    k0_pay61 (F := Ideal) a (k0_pay60 c0 s0) p0 c1 s1 p1 = addPv (addPv a p0 c0 s0) p1 c1 s1 := rfl

/-- Three more chunks' values. -/
theorem pay63_eq (a c0 s0 p0 c1 s1 p1 c2 s2 p2) :
    k0_pay63 (F := Ideal) a (k0_pay62 c0 s0) p0 c1 s1 p1 c2 s2 p2 = addPv (addPv (addPv a p0 c0 s0) p1 c1 s1) p2 c2 s2 := rfl

/-- Two more chunks' values. -/
theorem pay64_eq (a c0 s0 p0 c1 s1 p1) :
    k0_pay64 (F := Ideal) a c0 s0 p0 c1 s1 p1 = addPv (addPv a p0 c0 s0) p1 c1 s1 := rfl

/-- The last chunk's values, and the update of the running sum. -/
theorem pay1_eq (corr a c s p old) (h : Fin 32) (k : Fin 512) :
    k0_pay1 (F := Ideal) corr a c s p old (ix2 h k)
      = (old (ix2 h k) : EReal) * (corr (ix2 h 0) : EReal) + (addPv a p c s (ix2 h k) : EReal) := by
  have e : k0_pay1 (F := Ideal) corr a c s p old
      = shapeCast S32x512 (addf (mulf old (broadcastTo S32x512 corr broadcasts_S32x1_S32x512)) (addPv a p c s)) shapeCasts_S32x512_S32x512 := rfl
  rw [e]
  pointwise

/-- A chunk's score at head `h`, token `t`: the contraction with the dequantized keys, times the scale. -/
theorem scores_at (qx : Vec Ideal S32x512 .bf16) (c s) (h : Fin 32) (t : Fin 256) :
    scores qx c s (ix2 h t) = (∑ k : Fin 512, (qx (ix2 h k) : EReal) * (deq c s (ix2 k t) : EReal)) * SM := by
  pointwise [scores]

/-- A chunk's weighted values at head `h`, column `k`, added to what was there. -/
theorem addPv_at (a p c s) (h : Fin 32) (k : Fin 512) :
    addPv a p c s (ix2 h k) = (a (ix2 h k) : EReal) + ∑ t : Fin 256, (p (ix2 h t) : EReal) * (deq c s (ix2 k t) : EReal) := by
  pointwise [addPv]

/-- The running maximum after a block. -/
theorem pay53_at (s : Vec Ideal S32x2048 .f32) (m : Vec Ideal S32x1 .f32) (h : Fin 32) :
    k0_pay53 (F := Ideal) s m (ix2 h 0)
      = max (m (ix2 h 0) : EReal) (Finset.univ.fold max ⊥ fun t : Fin 2048 => (s (ix2 h t) : EReal)) := by
  pointwise [k0_pay53]
  rw [ofBits_neg_inf]

/-- The block's weights. -/
theorem pay54_at (s : Vec Ideal S32x2048 .f32) (m : Vec Ideal S32x1 .f32) (h : Fin 32) (t : Fin 2048) :
    k0_pay54 (F := Ideal) s m (ix2 h t) = wt (s (ix2 h t)) (k0_pay53 (F := Ideal) s m (ix2 h 0)) := by
  pointwise [k0_pay54]; rfl

/-- The rescaling factor. -/
theorem pay55_at (s : Vec Ideal S32x2048 .f32) (m : Vec Ideal S32x1 .f32) (h : Fin 32) :
    k0_pay55 (F := Ideal) s m (ix2 h 0) = wt (m (ix2 h 0)) (k0_pay53 (F := Ideal) s m (ix2 h 0)) := by
  pointwise [k0_pay55]; rfl

/-- The running sum of the weights after a block. -/
theorem pay56_at (s : Vec Ideal S32x2048 .f32) (m l : Vec Ideal S32x1 .f32) (h : Fin 32) :
    k0_pay56 (F := Ideal) s m l (ix2 h 0)
      = (l (ix2 h 0) : EReal) * wt (m (ix2 h 0)) (k0_pay53 (F := Ideal) s m (ix2 h 0))
        + ∑ t : Fin 2048, wt (s (ix2 h t)) (k0_pay53 (F := Ideal) s m (ix2 h 0)) := by
  rw [← pay55_at]
  simp only [← pay54_at]
  pointwise [k0_pay56]

/-- The running maximum, as stored. -/
theorem pay57_eq (s : Vec Ideal S32x2048 .f32) (m : Vec Ideal S32x1 .f32) : k0_pay57 (F := Ideal) s m = k0_pay53 s m :=
  shapeCast_self _ _

/-- The block's weights, as stored. -/
theorem pay58_eq (s : Vec Ideal S32x2048 .f32) (m : Vec Ideal S32x1 .f32) : k0_pay58 (F := Ideal) s m = k0_pay54 s m :=
  shapeCast_self _ _

end Cert.KernelIdeal.Attn
-- ==== Proof.Masks.lean ====
/-
  THE MASKS AND LAYOUTS the kernel makes of row and column numbers: which column a coordinate of a query is laid out at, and
  which columns belong to a query head's own cache head.
-/
module

public import proofs.«01_k».proof.Proof.Chunk

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- The kernel's printed floor division of a small natural by four. -/
theorem floordiv_four : ∀ k : Fin 512, (Scalar.select
        (IntOp.andi
          (IntOp.cmpi CmpIPredicate.ne
            (IntOp.subi (BitVec.setWidth 32 (IntOp.cmpi CmpIPredicate.sgt (BitVec.ofNat 32 ↑k) 0#32))
              (BitVec.setWidth 32 (IntOp.cmpi CmpIPredicate.slt (BitVec.ofNat 32 ↑k) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 ↑k) 4#32) 0#32))
        (IntOp.subi (IntOp.divsi ArithUnit.vector (BitVec.ofNat 32 ↑k) 4#32) 1#32)
        (IntOp.divsi ArithUnit.vector (BitVec.ofNat 32 ↑k) 4#32)) = BitVec.ofNat 32 (k.val / 4) := by
  decide +kernel

/-- The kernel's printed floor division of a small natural by eight. -/
theorem floordiv_eight : ∀ h : Fin 32, (Scalar.select
        (IntOp.andi
          (IntOp.cmpi CmpIPredicate.ne
            (IntOp.subi (BitVec.setWidth 32 (IntOp.cmpi CmpIPredicate.sgt (BitVec.ofNat 32 ↑h) 0#32))
              (BitVec.setWidth 32 (IntOp.cmpi CmpIPredicate.slt (BitVec.ofNat 32 ↑h) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 ↑h) 8#32) 0#32))
        (IntOp.subi (IntOp.divsi ArithUnit.vector (BitVec.ofNat 32 ↑h) 8#32) 1#32)
        (IntOp.divsi ArithUnit.vector (BitVec.ofNat 32 ↑h) 8#32)) = BitVec.ofNat 32 (h.val / 8) := by
  decide +kernel

/-- The kernel's printed remainder of a small natural by four. -/
theorem mod_four : ∀ k : Fin 512, (Scalar.select
        (IntOp.andi
          (IntOp.xori
            (IntOp.cmpi CmpIPredicate.slt
              (IntOp.remsi ArithUnit.vector (BitVec.ofNat 32 ↑k)
                (Scalar.select (Scalar.cmpi CmpIPredicate.eq 4#32 0#32) 1#32 4#32))
              0#32)
            (Scalar.cmpi CmpIPredicate.slt (Scalar.select (Scalar.cmpi CmpIPredicate.eq 4#32 0#32) 1#32 4#32) 0#32))
          (IntOp.cmpi CmpIPredicate.ne
            (IntOp.remsi ArithUnit.vector (BitVec.ofNat 32 ↑k)
              (Scalar.select (Scalar.cmpi CmpIPredicate.eq 4#32 0#32) 1#32 4#32))
            0#32))
        (IntOp.addi
          (IntOp.remsi ArithUnit.vector (BitVec.ofNat 32 ↑k)
            (Scalar.select (Scalar.cmpi CmpIPredicate.eq 4#32 0#32) 1#32 4#32))
          (Scalar.select (Scalar.cmpi CmpIPredicate.eq 4#32 0#32) 1#32 4#32))
        (IntOp.remsi ArithUnit.vector (BitVec.ofNat 32 ↑k)
          (Scalar.select (Scalar.cmpi CmpIPredicate.eq 4#32 0#32) 1#32 4#32))) = BitVec.ofNat 32 (k.val % 4) := by
  decide +kernel

/-- Comparing two small naturals as words. -/
theorem cmpi_eq_ofNat {a b : ℕ} (ha : a < 2 ^ 32) (hb : b < 2 ^ 32) :
    IntOp.cmpi CmpIPredicate.eq (BitVec.ofNat 32 a) (BitVec.ofNat 32 b) = if a = b then 1#1 else 0#1 := by
  by_cases h : a = b
  · subst h; rw [if_pos rfl]; simp [IntOp.cmpi]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    show BitVec.ofBool (BitVec.ofNat 32 a == BitVec.ofNat 32 b) = _
    rw [beq_false_of_ne hne]; rfl

/-- `spread`: coordinate `d` and column `k` meet where `d = k / 4`. -/
theorem pay30_at (d : Fin 128) (k : Fin 512) : k0_pay30 (ix2 d k) = if d.val = k.val / 4 then 1#1 else 0#1 := by
  pointwise [k0_pay30]
  rw [floordiv_four, cmpi_eq_ofNat (by omega) (by omega)]

/-- `own_head`: head `h` and column `k` meet where `k % 4 = h / 8`. -/
theorem pay34_at (h : Fin 32) (k : Fin 512) :
    k0_pay34 k0_pay31 k0_pay32 k0_pay33 (ix2 h k) = if h.val / 8 = k.val % 4 then 1#1 else 0#1 := by
  pointwise [k0_pay34, k0_pay31, k0_pay32, k0_pay33]
  rw [floordiv_eight, mod_four, cmpi_eq_ofNat (by omega) (by omega)]

/-- `own`: head `h` and cache head `n` meet where `n = h / 8`. -/
theorem pay18_at (h : Fin 32) (n : Fin 4) :
    k0_pay18 (iota .tc S32x4 32 [0] iota_S32x4_d0_w32) 8#32 k0_pay16 k0_pay17 (Scalar.extui (Scalar.cmpi CmpIPredicate.sgt 8#32 0#32)) (ix2 h n)
      = if h.val / 8 = n.val then 1#1 else 0#1 := by
  pointwise [k0_pay18, k0_pay16, k0_pay17]
  rw [floordiv_eight, cmpi_eq_ofNat (by omega) (by omega)]

/-- A one-bit word read as a number. -/
theorem sitofp_bit (p : Prop) [Decidable p] (φ : FTy) :
    (FloatOps.sitofp (F := Ideal) φ (BitVec.setWidth 32 (if p then 1#1 else 0#1)) : EReal) = if p then 1 else 0 := by
  show ((((BitVec.setWidth 32 (if p then 1#1 else 0#1)).toInt : ℝ)) : EReal) = _
  split
  · rw [show (BitVec.setWidth 32 1#1).toInt = 1 by decide]; simp
  · rw [show (BitVec.setWidth 32 0#1).toInt = 0 by decide]; simp

/-- The queries laid out over the columns: column `k` of head `h` holds coordinate `k / 4` where `k % 4` is the head's own
cache head, and zero elsewhere. -/
theorem pay35_at (q : Vec Ideal S1x32x128 .bf16) (h : Fin 32) (k : Fin 512) :
    k0_pay35 (F := Ideal) k0_pay30 k0_pay31 k0_pay32 k0_pay33 q (ix2 h k)
      = if h.val / 8 = k.val % 4 then (q (ix3 0 h (⟨k.val / 4, by omega⟩ : Fin 128)) : EReal) else 0 := by
  pointwise [k0_pay35]
  rw [pay34_at]
  simp only [pay30_at, sitofp_bit]
  have hs : (∑ x : Fin 128, (q (ix3 0 h x) : EReal) * (if x.val = k.val / 4 then (1 : EReal) else 0))
      = q (ix3 0 h (⟨k.val / 4, by omega⟩ : Fin 128)) := by
    rw [Finset.sum_eq_single (⟨k.val / 4, by omega⟩ : Fin 128)]
    · rw [if_pos rfl, mul_one]
    · intro b _ hb
      rw [if_neg (fun e => hb (Fin.ext e)), mul_zero]
    · intro hn; exact absurd (Finset.mem_univ _) hn
  by_cases hk : h.val / 8 = k.val % 4
  · rw [if_pos hk, if_pos hk]; exact hs
  · rw [if_neg hk, if_neg hk]; rfl

end Cert.KernelIdeal.Attn
-- ==== Proof.Block.lean ====
module
public import proofs.«01_k».proof.Proof.Masks
public import Idealize.ShloMosaic.Lib.Pipeline.ReadBack
@[expose] public section
/-!
  What one block of 2048 tokens does to the running maximum, the running sum and the running weighted values, over any
  eight chunks that hold the block.
-/
set_option maxRecDepth 16384
noncomputable section
namespace Cert.KernelIdeal.Attn
open Cert.KernelIdeal Cert.KernelIdeal.Gen Cert.Attn Idealize.ShloMosaic Idealize.ShloMosaic.TcCoe Idealize.SL.Sem

/-- A block's dequantized entry at column `k` and token `t`: the code of head `k % 4`, coordinate `k / 4`, times its scale. -/
def dq (K : Vec Ideal S1x8192x128 .i8) (KS : Vec Ideal S1x4x2048 .f32) (k : Fin 512) (t : Fin 2048) : EReal :=
  (((K (ix3 0 (⟨4 * t.val + k.val % 4, by omega⟩ : Fin 8192) (⟨k.val / 4, by omega⟩ : Fin 128))).toInt : ℝ) : EReal)
    * (KS (ix3 0 (⟨k.val % 4, by omega⟩ : Fin 4) t) : EReal)

/-- A block's score of head `h` at token `t`. -/
def sc (QX : Vec Ideal S32x512 .bf16) (K : Vec Ideal S1x8192x128 .i8) (KS : Vec Ideal S1x4x2048 .f32) (h : Fin 32) (t : Fin 2048) : EReal :=
  (∑ k : Fin 512, (QX (ix2 h k) : EReal) * dq K KS k t) * SM

/-- A chunk of a block, dequantized, is the block's dequantized entries from the chunk's first token on. -/
theorem deq_chunk (K KS) (o : ℕ) (ho : o < 8) (c : Vec Ideal S1x1024x128 .i8) (s : Vec Ideal S1x4x256 .f32)
    (hc : ∀ (r : Fin 1024) (d : Fin 128), c (ix3 0 r d) = K (ix3 0 (⟨1024 * o + r.val, by omega⟩ : Fin 8192) d))
    (hs : ∀ (n : Fin 4) (t : Fin 256), s (ix3 0 n t) = KS (ix3 0 n (⟨256 * o + t.val, by omega⟩ : Fin 2048)))
    (k : Fin 512) (t : Fin 256) : deq c s (ix2 k t) = dq K KS k (⟨256 * o + t.val, by omega⟩ : Fin 2048) := by
  rw [deq_at, hc, hs]
  unfold dq
  have e : (⟨1024 * o + (4 * t.val + k.val % 4), by omega⟩ : Fin 8192) = ⟨4 * (256 * o + t.val) + k.val % 4, by omega⟩ :=
    Fin.ext (by show _ = _; simp only []; omega)
  exact congrArg (fun r => (((K (ix3 0 r _)).toInt : ℝ) : EReal) * _) e

/-- A chunk's scores are the block's scores from the chunk's first token on. -/
theorem scores_chunk (QX K KS) (o : ℕ) (ho : o < 8) (c : Vec Ideal S1x1024x128 .i8) (s : Vec Ideal S1x4x256 .f32)
    (hc : ∀ (r : Fin 1024) (d : Fin 128), c (ix3 0 r d) = K (ix3 0 (⟨1024 * o + r.val, by omega⟩ : Fin 8192) d))
    (hs : ∀ (n : Fin 4) (t : Fin 256), s (ix3 0 n t) = KS (ix3 0 n (⟨256 * o + t.val, by omega⟩ : Fin 2048)))
    (h : Fin 32) (t : Fin 256) : scores QX c s (ix2 h t) = sc QX K KS h (⟨256 * o + t.val, by omega⟩ : Fin 2048) := by
  rw [scores_at]
  simp only [deq_chunk K KS o ho c s hc hs]
  rfl

variable (S : Vec Ideal S32x2048 .f32) (M L : Vec Ideal S32x1 .f32) (A : Vec Ideal S32x512 .f32) (s : ℕ → EReal) (v : ℕ → EReal) (n : ℕ) (h : Fin 32)

/-- The running maximum after a block. -/
theorem upd_m (hS : ∀ x : Fin 2048, S (ix2 h x) = s (n + x)) (hM : M (ix2 h 0) = top s n) :
    k0_pay57 (F := Ideal) S M (ix2 h 0) = top s (n + 2048) := by
  rw [pay57_eq, pay53_at, top_add, hM]
  simp only [hS]

/-- The running maximum after a block, from the one before it and the block's scores. -/
theorem upd_m' (hS : ∀ x : Fin 2048, S (ix2 h x) = s (n + x)) (hM : M (ix2 h 0) = top s n) :
    k0_pay53 (F := Ideal) S M (ix2 h 0) = top s (n + 2048) := by
  rw [← pay57_eq]; exact upd_m S M s n h hS hM

/-- The running sum of the weights after a block. -/
theorem upd_l (hS : ∀ x : Fin 2048, S (ix2 h x) = s (n + x)) (hM : M (ix2 h 0) = top s n) (hL : L (ix2 h 0) = den s n) :
    k0_pay56 (F := Ideal) S M L (ix2 h 0) = den s (n + 2048) := by
  rw [pay56_at, upd_m' S M s n h hS hM, den_add, hM, hL]
  simp only [hS]

/-- The running weighted values after a block. -/
theorem upd_acc (k : Fin 512) (hS : ∀ x : Fin 2048, S (ix2 h x) = s (n + x)) (hM : M (ix2 h 0) = top s n)
    (hA : A (ix2 h k) = num s v n)
    (c0 c1 c2 c3 c4 c5 c6 c7 : Vec Ideal S1x1024x128 .i8) (s0 s1 s2 s3 s4 s5 s6 s7 : Vec Ideal S1x4x256 .f32)
    (P0 P1 P2 P3 P4 P5 P6 P7 : Vec Ideal S32x256 .f32)
    (hP0 : ∀ x : Fin 256, P0 (ix2 h x) = k0_pay58 (F := Ideal) S M (ix2 h (⟨256 * 0 + x.val, by omega⟩ : Fin 2048)))
    (hP1 : ∀ x : Fin 256, P1 (ix2 h x) = k0_pay58 (F := Ideal) S M (ix2 h (⟨256 * 1 + x.val, by omega⟩ : Fin 2048)))
    (hP2 : ∀ x : Fin 256, P2 (ix2 h x) = k0_pay58 (F := Ideal) S M (ix2 h (⟨256 * 2 + x.val, by omega⟩ : Fin 2048)))
    (hP3 : ∀ x : Fin 256, P3 (ix2 h x) = k0_pay58 (F := Ideal) S M (ix2 h (⟨256 * 3 + x.val, by omega⟩ : Fin 2048)))
    (hP4 : ∀ x : Fin 256, P4 (ix2 h x) = k0_pay58 (F := Ideal) S M (ix2 h (⟨256 * 4 + x.val, by omega⟩ : Fin 2048)))
    (hP5 : ∀ x : Fin 256, P5 (ix2 h x) = k0_pay58 (F := Ideal) S M (ix2 h (⟨256 * 5 + x.val, by omega⟩ : Fin 2048)))
    (hP6 : ∀ x : Fin 256, P6 (ix2 h x) = k0_pay58 (F := Ideal) S M (ix2 h (⟨256 * 6 + x.val, by omega⟩ : Fin 2048)))
    (hP7 : ∀ x : Fin 256, P7 (ix2 h x) = k0_pay58 (F := Ideal) S M (ix2 h (⟨256 * 7 + x.val, by omega⟩ : Fin 2048)))
    (h0 : ∀ x : Fin 256, deq c0 s0 (ix2 k x) = v (n + (0 * 256 + x)))
    (h1 : ∀ x : Fin 256, deq c1 s1 (ix2 k x) = v (n + (1 * 256 + x)))
    (h2 : ∀ x : Fin 256, deq c2 s2 (ix2 k x) = v (n + (2 * 256 + x)))
    (h3 : ∀ x : Fin 256, deq c3 s3 (ix2 k x) = v (n + (3 * 256 + x)))
    (h4 : ∀ x : Fin 256, deq c4 s4 (ix2 k x) = v (n + (4 * 256 + x)))
    (h5 : ∀ x : Fin 256, deq c5 s5 (ix2 k x) = v (n + (5 * 256 + x)))
    (h6 : ∀ x : Fin 256, deq c6 s6 (ix2 k x) = v (n + (6 * 256 + x)))
    (h7 : ∀ x : Fin 256, deq c7 s7 (ix2 k x) = v (n + (7 * 256 + x))) :
    k0_pay1 (F := Ideal) (k0_pay55 S M)
      (k0_pay64 (k0_pay63 (k0_pay61 k0_pay59 (k0_pay60 c0 s0) P0 c1 s1 P1) (k0_pay62 c2 s2) P2 c3 s3 P3 c4 s4 P4) c5 s5 P5 c6 s6 P6)
      c7 s7 P7 A (ix2 h k) = num s v (n + 2048) := by
  have hw : ∀ x : Fin 2048, k0_pay58 (F := Ideal) S M (ix2 h x) = wt (s (n + x)) (top s (n + 2048)) := fun x => by
    rw [pay58_eq, pay54_at, upd_m' S M s n h hS hM, hS]
  have hz : k0_pay59 (F := Ideal) (ix2 h k) = (0 : EReal) := by pointwise [k0_pay59]
  rw [pay1_eq, pay64_eq, pay63_eq, pay61_eq]
  simp only [addPv_at]
  rw [pay55_at, upd_m' S M s n h hS hM, hM, hA, num_add, hz, zero_add]
  rw [Fin.sum_univ_tiles 8 256 rfl (fun i : Fin 2048 => wt (s (n + i)) (top s (n + 2048)) * v (n + i)), Fin.sum_univ_eight]
  simp only [hP0, hP1, hP2, hP3, hP4, hP5, hP6, hP7, h0, h1, h2, h3, h4, h5, h6, h7, hw, Nat.mul_comm 256]
  rfl

/-- A load of 256 columns of a buffer just filled with `Z`. -/
theorem read_fill {sig : RefSig} {κ : Kind} {sp : Space} (vw : View sig κ sp S32x2048 .f32) (i : ∀ a, (![0, 0] : Fin 2 → ℕ) a + (![32, 2048] : Fin 2 → ℕ) a ≤ S32x2048.size a)
    (Z : Vec Ideal S32x2048 .f32) (Ls : List (View.Piece (Elt Ideal) S32x2048 .f32)) (o : ℕ) (ho : o < 8)
    (j : ∀ a, (![0, 256 * o] : Fin 2 → ℕ) a + (![32, 256] : Fin 2 → ℕ) a ≤ S32x2048.size a) (x : Fin 256) :
    vw.readCov ((⟨Rect.unit (s := S32x2048) ![0, 0] ![32, 2048] i, Z⟩ : View.Piece (Elt Ideal) S32x2048 .f32) :: Ls)
      (Rect.unit (s := S32x2048) ![0, 256 * o] ![32, 256] j).toLoadRect (ix2 h x) = Z (ix2 h (⟨256 * o + x.val, by omega⟩ : Fin 2048)) := by
  refine (congrFun (View.readCov_fill vw (off := ![0, 0]) i Z Ls _ (by decide)) _).trans ?_
  refine View.ld_unit_apply_of Z _ _ _ _ (ix2 h (⟨256 * o + x.val, by omega⟩ : Fin 2048)) ?_
  intro a
  fin_cases a
  · show h.val = 0 + h.val; omega
  · rfl

end Cert.KernelIdeal.Attn
-- ==== Proof.Finish.lean ====
module
public import proofs.«01_k».proof.Proof.Masks
@[expose] public section
/-!
  The last step of a row: the new token joins the running maximum, sum and weighted values, and the weighted values are
  gathered from the 512 columns and divided by the sum.
-/
set_option maxRecDepth 16384
noncomputable section
namespace Cert.KernelIdeal.Attn
open Cert.KernelIdeal Cert.KernelIdeal.Gen Cert.Attn Idealize.ShloMosaic Idealize.ShloMosaic.TcCoe Idealize.SL.Sem

/-- The row indices of a [32, 4] array. -/
abbrev rows4 : IVec S32x4 32 := iota .tc S32x4 32 [0] iota_S32x4_d0_w32

/-- The mask of a query head's own key/value head, at an index. -/
theorem pay18_at' (h : Fin 32) (n : Fin 4) :
    k0_pay18 rows4 8#32 k0_pay16 k0_pay17 1#32 (ix2 h n) = if h.val / 8 = n.val then 1#1 else 0#1 := pay18_at h n

variable (q : Vec Ideal S1x32x128 .bf16) (kn vn : Vec Ideal S1x4x128 .bf16) (M L : Vec Ideal S32x1 .f32) (A : Vec Ideal S32x512 .f32)

/-- The new token's key, quantized and dequantized: head `n`, coordinate `d`. -/
def newK (n : Fin 4) (d : Fin 128) : EReal := (k0_pay5 (F := Ideal) kn (ix2 n d) : EReal) * (k0_pay4 (F := Ideal) kn (ix2 n 0) : EReal)

/-- The new token's value, quantized and dequantized: head `n`, coordinate `d`. -/
def newV (n : Fin 4) (d : Fin 128) : EReal := (k0_pay8 (F := Ideal) vn (ix2 n d) : EReal) * (k0_pay7 (F := Ideal) vn (ix2 n 0) : EReal)

/-- The new token's score for head `h`. -/
def newS (h : Fin 32) : EReal := (∑ d : Fin 128, (q (ix3 0 h d) : EReal) * newK kn (⟨h.val / 8, by omega⟩ : Fin 4) d) * SM

/-- The scaled product of a query head with each head's new key. -/
theorem pay15_at (h : Fin 32) (n : Fin 4) :
    k0_pay15 (F := Ideal) (k0_pay4 kn) (k0_pay5 kn) q (ix2 h n) = (∑ d : Fin 128, (q (ix3 0 h d) : EReal) * newK kn n d) * SM := by
  pointwise [k0_pay15]
  rfl

/-- The maximum over four entries of which only `a` is not `⊥`. -/
theorem fold_max_pick (a : Fin 4) (x : Fin 4 → EReal) :
    (Finset.univ.fold max ⊥ fun n : Fin 4 => if a = n then x n else ⊥) = x a := by
  rw [fold_max_eq_sup]
  apply le_antisymm
  · refine Finset.sup_le fun n _ => ?_
    by_cases e : a = n
    · rw [if_pos e, e]
    · rw [if_neg e]; exact bot_le
  · refine le_trans ?_ (Finset.le_sup (Finset.mem_univ a))
    rw [if_pos rfl]

/-- The new token's score: the product with the query head's own new key. -/
theorem pay19_at (h : Fin 32) :
    k0_pay19 (F := Ideal) (k0_pay15 (k0_pay4 kn) (k0_pay5 kn) q) rows4 8#32 k0_pay16 k0_pay17 1#32 (ix2 h 0) = newS q kn h := by
  pointwise [k0_pay19]
  simp only [pay18_at', pay15_at, ofBits_neg_inf, Scalar.select]
  refine Eq.trans ?_ ((fold_max_pick (⟨h.val / 8, by omega⟩ : Fin 4) fun n => (∑ d : Fin 128, (q (ix3 0 h d) : EReal) * newK kn n d) * SM).trans rfl)
  refine congrArg (fun f => Finset.fold max ⊥ f Finset.univ) (funext fun n => ?_)
  by_cases e : h.val / 8 = n.val
  · rw [if_pos e, if_pos (Fin.ext e)]; rfl
  · rw [if_neg e, if_neg (fun c => e (congrArg Fin.val c))]; rfl

/-- The running maximum with the new token. -/
theorem pay20_at (h : Fin 32) :
    k0_pay20 (F := Ideal) (k0_pay15 (k0_pay4 kn) (k0_pay5 kn) q) rows4 8#32 k0_pay16 k0_pay17 1#32 M (ix2 h 0)
      = max (M (ix2 h 0) : EReal) (newS q kn h) := by
  pointwise [k0_pay20]
  rw [pay19_at]

/-- The new token's weight. -/
theorem pay21_at (h : Fin 32) :
    k0_pay21 (F := Ideal) (k0_pay15 (k0_pay4 kn) (k0_pay5 kn) q) rows4 8#32 k0_pay16 k0_pay17 1#32 M (ix2 h 0)
      = wt (newS q kn h) (max (M (ix2 h 0) : EReal) (newS q kn h)) := by
  pointwise [k0_pay21]
  rw [pay19_at, pay20_at]; rfl

/-- The rescaling factor. -/
theorem pay22_at (h : Fin 32) :
    k0_pay22 (F := Ideal) (k0_pay15 (k0_pay4 kn) (k0_pay5 kn) q) rows4 8#32 k0_pay16 k0_pay17 1#32 M (ix2 h 0)
      = wt (M (ix2 h 0)) (max (M (ix2 h 0) : EReal) (newS q kn h)) := by
  pointwise [k0_pay22]
  rw [pay20_at]; rfl

/-- The sum of the weights with the new token. -/
theorem pay23_at (h : Fin 32) :
    k0_pay23 (F := Ideal) (k0_pay15 (k0_pay4 kn) (k0_pay5 kn) q) rows4 8#32 k0_pay16 k0_pay17 1#32 M L (ix2 h 0)
      = (L (ix2 h 0) : EReal) * wt (M (ix2 h 0)) (max (M (ix2 h 0) : EReal) (newS q kn h))
        + wt (newS q kn h) (max (M (ix2 h 0) : EReal) (newS q kn h)) := by
  pointwise [k0_pay23]
  rw [pay22_at, pay21_at]

/-- The rescaled weighted values, kept on a head's own columns. -/
theorem pay24_at (h : Fin 32) (k : Fin 512) :
    k0_pay24 (F := Ideal) (k0_pay34 k0_pay31 k0_pay32 k0_pay33) (k0_pay15 (k0_pay4 kn) (k0_pay5 kn) q) rows4 8#32 k0_pay16 k0_pay17 1#32 M A (ix2 h k)
      = if h.val / 8 = k.val % 4 then (A (ix2 h k) : EReal) * wt (M (ix2 h 0)) (max (M (ix2 h 0) : EReal) (newS q kn h)) else 0 := by
  pointwise [k0_pay24]
  rw [pay34_at, pay22_at]
  by_cases e : h.val / 8 = k.val % 4
  · rw [if_pos e, if_pos e]; rfl
  · rw [if_neg e, if_neg e]; rfl

/-- The 0/1 matrix that gathers coordinate `d` from the columns `4 d .. 4 d + 3`. -/
theorem pay28_at (d : Fin 128) (k : Fin 512) :
    k0_pay28 (F := Ideal) k0_pay30 (ix2 d k) = if d.val = k.val / 4 then (1 : EReal) else 0 := by
  pointwise [k0_pay28]
  simp only [pay30_at, sitofp_bit]

/-- A head's own columns gathered: only column `4 d + h / 8` counts. -/
theorem gather_own (h : Fin 32) (d : Fin 128) (a : Fin 512 → EReal) :
    (∑ k : Fin 512, (if h.val / 8 = k.val % 4 then a k else 0) * (if d.val = k.val / 4 then (1 : EReal) else 0))
      = a (⟨4 * d.val + h.val / 8, by omega⟩ : Fin 512) := by
  rw [Finset.sum_eq_single (⟨4 * d.val + h.val / 8, by omega⟩ : Fin 512)]
  · rw [if_pos (by show _ = (4 * d.val + h.val / 8) % 4; omega), if_pos (by show _ = (4 * d.val + h.val / 8) / 4; omega), mul_one]
  · intro b _ hb
    by_cases e : h.val / 8 = b.val % 4
    · by_cases e' : d.val = b.val / 4
      · exact absurd (Fin.ext (by show b.val = 4 * d.val + h.val / 8; omega)) hb
      · rw [if_neg e', mul_zero]
    · rw [if_neg e, zero_mul]
  · intro hn; exact absurd (Finset.mem_univ _) hn

/-- One head's own row picked from four. -/
theorem pick_row (h : Fin 32) (x : Fin 4 → EReal) :
    (∑ n : Fin 4, (if h.val / 8 = n.val then (1 : EReal) else 0) * x n) = x (⟨h.val / 8, by omega⟩ : Fin 4) := by
  rw [Finset.sum_eq_single (⟨h.val / 8, by omega⟩ : Fin 4)]
  · rw [if_pos rfl, one_mul]
  · intro b _ hb
    rw [if_neg (fun c => hb (Fin.ext c.symm)), zero_mul]
  · intro hn; exact absurd (Finset.mem_univ _) hn

/-- The row's result: the weighted values of all tokens over the sum of their weights. -/
theorem finish_y (s v : ℕ → EReal) (n : ℕ) (h : Fin 32) (d : Fin 128) (hM : M (ix2 h 0) = top s n) (hL : L (ix2 h 0) = den s n)
    (hA : A (ix2 h (⟨4 * d.val + h.val / 8, by omega⟩ : Fin 512)) = num s v n) (hr : ∀ k, ∃ r : ℝ, A (ix2 h k) = (r : EReal))
    (hs : newS q kn h = s n) (hv : newV vn (⟨h.val / 8, by omega⟩ : Fin 4) d = v n) :
    k0_pay2 (F := Ideal) (k0_pay14 (k0_pay7 vn) (k0_pay8 vn)) (k0_pay18 rows4 8#32 k0_pay16 k0_pay17 1#32)
      (k0_pay21 (k0_pay15 (k0_pay4 kn) (k0_pay5 kn) q) rows4 8#32 k0_pay16 k0_pay17 1#32 M)
      (k0_pay23 (k0_pay15 (k0_pay4 kn) (k0_pay5 kn) q) rows4 8#32 k0_pay16 k0_pay17 1#32 M L)
      (k0_pay26 (k0_pay34 k0_pay31 k0_pay32 k0_pay33) (k0_pay15 (k0_pay4 kn) (k0_pay5 kn) q) rows4 8#32 k0_pay16 k0_pay17 1#32 M A)
      (k0_pay27 (k0_pay34 k0_pay31 k0_pay32 k0_pay33) (k0_pay15 (k0_pay4 kn) (k0_pay5 kn) q) rows4 8#32 k0_pay16 k0_pay17 1#32 M A)
      (k0_pay28 k0_pay30)
      (k0_pay29 k0_pay30 (k0_pay34 k0_pay31 k0_pay32 k0_pay33) (k0_pay15 (k0_pay4 kn) (k0_pay5 kn) q) rows4 8#32 k0_pay16 k0_pay17 1#32 M A)
      (constant S32x128 .f32 0#32) (ix3 0 h d)
      = Ideal.div (num s v (n + 1)) (den s (n + 1)) := by
  have ht : max (M (ix2 h 0) : EReal) (newS q kn h) = top s (n + 1) := by
    rw [top_add, hM, hs]; simp
  have hown : ∀ k, k0_pay24 (F := Ideal) (k0_pay34 k0_pay31 k0_pay32 k0_pay33) (k0_pay15 (k0_pay4 kn) (k0_pay5 kn) q) rows4 8#32 k0_pay16 k0_pay17 1#32 M A (ix2 h k)
      = if h.val / 8 = k.val % 4 then (A (ix2 h k) : EReal) * wt (top s n) (top s (n + 1)) else 0 := fun k => by
    rw [pay24_at, ht, hM]
  have hreal : ∀ k, ∃ r : ℝ, k0_pay24 (F := Ideal) (k0_pay34 k0_pay31 k0_pay32 k0_pay33) (k0_pay15 (k0_pay4 kn) (k0_pay5 kn) q) rows4 8#32 k0_pay16 k0_pay17 1#32 M A (ix2 h k)
      = (r : EReal) := fun k => by
    rw [hown]
    split
    · obtain ⟨a, ha⟩ := hr k
      obtain ⟨b, hb⟩ := wt_real (top_mono s (Nat.le_add_right n 1))
      exact ⟨a * b, by rw [ha, hb, EReal.coe_mul]⟩
    · exact ⟨0, rfl⟩
  have h25 : ∀ k, k0_pay25 (F := Ideal) (k0_pay34 k0_pay31 k0_pay32 k0_pay33) (k0_pay15 (k0_pay4 kn) (k0_pay5 kn) q) rows4 8#32 k0_pay16 k0_pay17 1#32 M A (ix2 h k)
      = if h.val / 8 = k.val % 4 then (A (ix2 h k) : EReal) * wt (top s n) (top s (n + 1)) else 0 := fun k => by
    rw [← hown]; rfl
  have h26 : ∀ k, k0_pay26 (F := Ideal) (k0_pay34 k0_pay31 k0_pay32 k0_pay33) (k0_pay15 (k0_pay4 kn) (k0_pay5 kn) q) rows4 8#32 k0_pay16 k0_pay17 1#32 M A (ix2 h k)
      = (0 : EReal) := fun k => (split_three _ (hreal k)).1
  have h27 : ∀ k, k0_pay27 (F := Ideal) (k0_pay34 k0_pay31 k0_pay32 k0_pay33) (k0_pay15 (k0_pay4 kn) (k0_pay5 kn) q) rows4 8#32 k0_pay16 k0_pay17 1#32 M A (ix2 h k)
      = (0 : EReal) := fun k => (split_three _ (hreal k)).2
  have h29 : k0_pay29 (F := Ideal) k0_pay30 (k0_pay34 k0_pay31 k0_pay32 k0_pay33) (k0_pay15 (k0_pay4 kn) (k0_pay5 kn) q) rows4 8#32 k0_pay16 k0_pay17 1#32 M A (ix2 h d)
      = num s v n * wt (top s n) (top s (n + 1)) := by
    pointwise [k0_pay29]
    simp only [h25, pay28_at]
    rw [gather_own h d fun k => (A (ix2 h k) : EReal) * wt (top s n) (top s (n + 1)), hA]
  have h14 : ∀ n', k0_pay14 (F := Ideal) (k0_pay7 vn) (k0_pay8 vn) (ix2 n' d) = newV vn n' d := fun n' => by
    pointwise [k0_pay14]; rfl
  pointwise [k0_pay2]
  simp only [h26, h27, h29, h14, pay18_at', sitofp_bit, zero_mul, Finset.sum_const_zero, add_zero]
  rw [pick_row h fun n' => newV vn n' d, pay21_at, pay23_at, ht, hM, hL, hs, hv]
  have hn := num_add s v n 1
  have hd := den_add s n 1
  simp only [Finset.univ_unique, Finset.sum_singleton, Fin.default_eq_zero, Fin.val_zero, Nat.add_zero] at hn hd
  rw [hn, hd]

end Cert.KernelIdeal.Attn
-- ==== Proof.Step.lean ====
module
public import proofs.«01_k».proof.Proof.Block
public import proofs.«01_k».proof.Proof.Finish
public import proofs.«01_k».proof.Proof.Gen.KernelIdeal.Frame
@[expose] public section
/-!
  One grid point's step: from the running maximum, sum and weighted values of the tokens before the block to those after it.
-/
set_option maxRecDepth 16384
noncomputable section
namespace Cert.KernelIdeal.Attn
open Cert.KernelIdeal Cert.KernelIdeal.Gen Cert.Attn Idealize.ShloMosaic Idealize.ShloMosaic.TcCoe Idealize.SL.Sem
open Idealize.ShloMosaic.Pipeline (Dat)
variable (m : (ℓ : Loc nD τ sig) → Buf (Elt Ideal) ℓ)

/-- Eight chunks of scores, stored side by side and read back whole. -/
theorem read_scores {sig : RefSig} {κ : Kind} {sp : Space} (vw : View sig κ sp S32x2048 .f32) (f : ℕ → EReal) (h : Fin 32)
    (w0 w1 w2 w3 w4 w5 w6 w7 : Vec Ideal S32x256 .f32)
    (i0 : ∀ a, (![0, 0] : Fin 2 → ℕ) a + (![32, 256] : Fin 2 → ℕ) a ≤ S32x2048.size a)
    (i1 : ∀ a, (![0, 256] : Fin 2 → ℕ) a + (![32, 256] : Fin 2 → ℕ) a ≤ S32x2048.size a)
    (i2 : ∀ a, (![0, 512] : Fin 2 → ℕ) a + (![32, 256] : Fin 2 → ℕ) a ≤ S32x2048.size a)
    (i3 : ∀ a, (![0, 768] : Fin 2 → ℕ) a + (![32, 256] : Fin 2 → ℕ) a ≤ S32x2048.size a)
    (i4 : ∀ a, (![0, 1024] : Fin 2 → ℕ) a + (![32, 256] : Fin 2 → ℕ) a ≤ S32x2048.size a)
    (i5 : ∀ a, (![0, 1280] : Fin 2 → ℕ) a + (![32, 256] : Fin 2 → ℕ) a ≤ S32x2048.size a)
    (i6 : ∀ a, (![0, 1536] : Fin 2 → ℕ) a + (![32, 256] : Fin 2 → ℕ) a ≤ S32x2048.size a)
    (i7 : ∀ a, (![0, 1792] : Fin 2 → ℕ) a + (![32, 256] : Fin 2 → ℕ) a ≤ S32x2048.size a)
    (i : ∀ a, (![0, 0] : Fin 2 → ℕ) a + (![32, 2048] : Fin 2 → ℕ) a ≤ S32x2048.size a)
    (h0 : ∀ x : Fin 256, w0 (ix2 h x) = f (256 * 0 + x))
    (h1 : ∀ x : Fin 256, w1 (ix2 h x) = f (256 * 1 + x))
    (h2 : ∀ x : Fin 256, w2 (ix2 h x) = f (256 * 2 + x))
    (h3 : ∀ x : Fin 256, w3 (ix2 h x) = f (256 * 3 + x))
    (h4 : ∀ x : Fin 256, w4 (ix2 h x) = f (256 * 4 + x))
    (h5 : ∀ x : Fin 256, w5 (ix2 h x) = f (256 * 5 + x))
    (h6 : ∀ x : Fin 256, w6 (ix2 h x) = f (256 * 6 + x))
    (h7 : ∀ x : Fin 256, w7 (ix2 h x) = f (256 * 7 + x))
    (t : Fin 2048) :
    vw.readCov [(⟨Rect.unit (s := S32x2048) ![0, 1792] ![32, 256] i7, w7⟩ : View.Piece (Elt Ideal) S32x2048 .f32), (⟨Rect.unit (s := S32x2048) ![0, 1536] ![32, 256] i6, w6⟩ : View.Piece (Elt Ideal) S32x2048 .f32), (⟨Rect.unit (s := S32x2048) ![0, 1280] ![32, 256] i5, w5⟩ : View.Piece (Elt Ideal) S32x2048 .f32), (⟨Rect.unit (s := S32x2048) ![0, 1024] ![32, 256] i4, w4⟩ : View.Piece (Elt Ideal) S32x2048 .f32), (⟨Rect.unit (s := S32x2048) ![0, 768] ![32, 256] i3, w3⟩ : View.Piece (Elt Ideal) S32x2048 .f32), (⟨Rect.unit (s := S32x2048) ![0, 512] ![32, 256] i2, w2⟩ : View.Piece (Elt Ideal) S32x2048 .f32), (⟨Rect.unit (s := S32x2048) ![0, 256] ![32, 256] i1, w1⟩ : View.Piece (Elt Ideal) S32x2048 .f32), (⟨Rect.unit (s := S32x2048) ![0, 0] ![32, 256] i0, w0⟩ : View.Piece (Elt Ideal) S32x2048 .f32)]
      (Rect.unit (s := S32x2048) ![0, 0] ![32, 2048] i).toLoadRect (ix2 h t) = f t := by
  rw [View.readCov_eq_canon']
  refine (congrArg (View.canon _) (?_ : _ = ix2 h t)).trans ?_
  · funext a; fin_cases a
    · exact Fin.ext (by show 0 + 1 * h.val = h.val; omega)
    · exact Fin.ext (by show 0 + 1 * t.val = t.val; omega)
  have hxe : ∀ x : S32x256.Idx, h.val = (x 0).val → ∃ y : Fin 256, y.val = (x 1).val ∧ x = ix2 h y := fun x e =>
    ⟨x 1, rfl, by
      funext a; fin_cases a
      · exact Fin.ext e.symm
      · rfl⟩
  canon_tiles x hx using (View.cover_of_tiledL _ ![32, 256] (by rfl) _)
  · obtain ⟨y, hy, rfl⟩ := hxe x hx0
    exact (h7 y).trans (congrArg f (by have e : t.val = _ := hx1; omega))
  · obtain ⟨y, hy, rfl⟩ := hxe x hx0
    exact (h6 y).trans (congrArg f (by have e : t.val = _ := hx1; omega))
  · obtain ⟨y, hy, rfl⟩ := hxe x hx0
    exact (h5 y).trans (congrArg f (by have e : t.val = _ := hx1; omega))
  · obtain ⟨y, hy, rfl⟩ := hxe x hx0
    exact (h4 y).trans (congrArg f (by have e : t.val = _ := hx1; omega))
  · obtain ⟨y, hy, rfl⟩ := hxe x hx0
    exact (h3 y).trans (congrArg f (by have e : t.val = _ := hx1; omega))
  · obtain ⟨y, hy, rfl⟩ := hxe x hx0
    exact (h2 y).trans (congrArg f (by have e : t.val = _ := hx1; omega))
  · obtain ⟨y, hy, rfl⟩ := hxe x hx0
    exact (h1 y).trans (congrArg f (by have e : t.val = _ := hx1; omega))
  · obtain ⟨y, hy, rfl⟩ := hxe x hx0
    exact (h0 y).trans (congrArg f (by have e : t.val = _ := hx1; omega))

/-- The running maximum, sum and weighted values hold the first `n` tokens of every head. -/
def Inv (s : Fin 32 → ℕ → EReal) (v : Fin 512 → ℕ → EReal) (n : ℕ) (M L : Vec Ideal S32x1 .f32) (A : Vec Ideal S32x512 .f32) : Prop :=
  (∀ h, M (ix2 h 0) = top (s h) n) ∧ (∀ h, L (ix2 h 0) = den (s h) n) ∧ ∀ h k, A (ix2 h k) = num (s h) (v k) n

/-- Before any token. -/
theorem Inv_init (s v) : Inv s v 0 (k0_pay36 (F := Ideal)) (k0_pay37 (F := Ideal)) (k0_pay38 (F := Ideal)) := by
  refine ⟨fun h => ?_, fun h => ?_, fun h k => ?_⟩
  · pointwise [k0_pay36]; rw [ofBits_neg_inf, top_zero]
  · pointwise [k0_pay37]; rw [den_zero]
  · pointwise [k0_pay38]; rw [num_zero]

/-- A middle block of a row. -/
theorem stepB (c : Dev nD) (t : Fin cfg0.N) (h0 : ¬ t.val % 8 = 0) (h1 : ¬ t.val % 8 = 7) (s v) (n : ℕ)
    (hs : ∀ (h : Fin 32) (x : Fin 2048), sc (outsAt0 m c (t.val - 1) (by omega)).2.2.2.2.2.1 (iblk m c 3 t) (iblk m c 4 t) h x = s h (n + x))
    (hv : ∀ (k : Fin 512) (x : Fin 2048), dq (iblk m c 5 t) (iblk m c 6 t) k x = v k (n + x))
    (hI : Inv s v n (outsAt0 m c (t.val - 1) (by omega)).2.2.2.2.2.2.1 (outsAt0 m c (t.val - 1) (by omega)).2.2.2.2.2.2.2.1
      (outsAt0 m c (t.val - 1) (by omega)).2.2.2.2.2.2.2.2) :
    Inv s v (n + 2048) (outsAt0 m c t.val t.isLt).2.2.2.2.2.2.1 (outsAt0 m c t.val t.isLt).2.2.2.2.2.2.2.1
      (outsAt0 m c t.val t.isLt).2.2.2.2.2.2.2.2 := by
  refine ⟨fun h => ?_, fun h => ?_, fun h k => ?_⟩
  · rw [outsAt0_B m c t h0 h1]
    frame_out
    simp only [read_unread_whole]
    exact upd_m _ _ (s h) n h (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h)
  · rw [outsAt0_B m c t h0 h1]
    frame_out
    simp only [read_unread_whole]
    exact upd_l _ _ _ (s h) n h (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h) (hI.2.1 h)
  · rw [outsAt0_B m c t h0 h1]
    frame_out
    simp only [read_unread_whole]
    exact upd_acc _ _ _ (s h) (v k) n h k (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h) (hI.2.2 h k) _ _ _ _ _ _ _ _ _ _ _ _ _ _ _ _ _ _ _ _ _ _ _ _
      (fun x => read_fill h _ _ _ _ 0 (by omega) _ x)
      (fun x => read_fill h _ _ _ _ 1 (by omega) _ x)
      (fun x => read_fill h _ _ _ _ 2 (by omega) _ x)
      (fun x => read_fill h _ _ _ _ 3 (by omega) _ x)
      (fun x => read_fill h _ _ _ _ 4 (by omega) _ x)
      (fun x => read_fill h _ _ _ _ 5 (by omega) _ x)
      (fun x => read_fill h _ _ _ _ 6 (by omega) _ x)
      (fun x => read_fill h _ _ _ _ 7 (by omega) _ x)
      (fun x => (deq_chunk _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 0 + x.val = 0 * 256 + x.val; omega))))
      (fun x => (deq_chunk _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 1 + x.val = 1 * 256 + x.val; omega))))
      (fun x => (deq_chunk _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 2 + x.val = 2 * 256 + x.val; omega))))
      (fun x => (deq_chunk _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 3 + x.val = 3 * 256 + x.val; omega))))
      (fun x => (deq_chunk _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 4 + x.val = 4 * 256 + x.val; omega))))
      (fun x => (deq_chunk _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 5 + x.val = 5 * 256 + x.val; omega))))
      (fun x => (deq_chunk _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 6 + x.val = 6 * 256 + x.val; omega))))
      (fun x => (deq_chunk _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 7 + x.val = 7 * 256 + x.val; omega))))

/-- The first block of a row. -/
theorem stepA (c : Dev nD) (t : Fin cfg0.N) (h0 : t.val % 8 = 0) (h1 : ¬ t.val % 8 = 7) (s v)
    (hs : ∀ (h : Fin 32) (x : Fin 2048), sc (k0_pay35 (F := Ideal) k0_pay30 k0_pay31 k0_pay32 k0_pay33 (iblk m c 0 t)) (iblk m c 3 t) (iblk m c 4 t) h x = s h (0 + x))
    (hv : ∀ (k : Fin 512) (x : Fin 2048), dq (iblk m c 5 t) (iblk m c 6 t) k x = v k (0 + x)) :
    Inv s v (0 + 2048) (outsAt0 m c t.val t.isLt).2.2.2.2.2.2.1 (outsAt0 m c t.val t.isLt).2.2.2.2.2.2.2.1
      (outsAt0 m c t.val t.isLt).2.2.2.2.2.2.2.2 := by
  refine ⟨fun h => ?_, fun h => ?_, fun h k => ?_⟩
  · rw [outsAt0_A m c t h0 h1]
    frame_out
    exact upd_m _ _ (s h) 0 h (fun x => (read_scores _ (fun x => s h (0 + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) ((Inv_init s v).1 h)
  · rw [outsAt0_A m c t h0 h1]
    frame_out
    exact upd_l _ _ _ (s h) 0 h (fun x => (read_scores _ (fun x => s h (0 + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) ((Inv_init s v).1 h) ((Inv_init s v).2.1 h)
  · rw [outsAt0_A m c t h0 h1]
    frame_out
    exact upd_acc _ _ _ (s h) (v k) 0 h k (fun x => (read_scores _ (fun x => s h (0 + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) ((Inv_init s v).1 h) ((Inv_init s v).2.2 h k) _ _ _ _ _ _ _ _ _ _ _ _ _ _ _ _ _ _ _ _ _ _ _ _
      (fun x => read_fill h _ _ _ _ 0 (by omega) _ x)
      (fun x => read_fill h _ _ _ _ 1 (by omega) _ x)
      (fun x => read_fill h _ _ _ _ 2 (by omega) _ x)
      (fun x => read_fill h _ _ _ _ 3 (by omega) _ x)
      (fun x => read_fill h _ _ _ _ 4 (by omega) _ x)
      (fun x => read_fill h _ _ _ _ 5 (by omega) _ x)
      (fun x => read_fill h _ _ _ _ 6 (by omega) _ x)
      (fun x => read_fill h _ _ _ _ 7 (by omega) _ x)
      (fun x => (deq_chunk _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 0 + x.val = 0 * 256 + x.val; omega))))
      (fun x => (deq_chunk _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 1 + x.val = 1 * 256 + x.val; omega))))
      (fun x => (deq_chunk _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 2 + x.val = 2 * 256 + x.val; omega))))
      (fun x => (deq_chunk _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 3 + x.val = 3 * 256 + x.val; omega))))
      (fun x => (deq_chunk _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 4 + x.val = 4 * 256 + x.val; omega))))
      (fun x => (deq_chunk _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 5 + x.val = 5 * 256 + x.val; omega))))
      (fun x => (deq_chunk _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 6 + x.val = 6 * 256 + x.val; omega))))
      (fun x => (deq_chunk _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (0 + i)) (by show 256 * 7 + x.val = 7 * 256 + x.val; omega))))

/-- The first block lays the queries out over the columns. -/
theorem qxA (c : Dev nD) (t : Fin cfg0.N) (h0 : t.val % 8 = 0) (h1 : ¬ t.val % 8 = 7) :
    (outsAt0 m c t.val t.isLt).2.2.2.2.2.1 = k0_pay35 (F := Ideal) k0_pay30 k0_pay31 k0_pay32 k0_pay33 (iblk m c 0 t) := by
  rw [outsAt0_A m c t h0 h1]
  frame_out

/-- A later block keeps them. -/
theorem qxB (c : Dev nD) (t : Fin cfg0.N) (h0 : ¬ t.val % 8 = 0) (h1 : ¬ t.val % 8 = 7) :
    (outsAt0 m c t.val t.isLt).2.2.2.2.2.1 = (outsAt0 m c (t.val - 1) (by omega)).2.2.2.2.2.1 := by
  rw [outsAt0_B m c t h0 h1]
  rfl

/-- The last block of a row: the row's result, from the running quantities before the block. -/
theorem stepC (c : Dev nD) (t : Fin cfg0.N) (h0 : ¬ t.val % 8 = 0) (h1 : t.val % 8 = 7) (s v) (n : ℕ)
    (hs : ∀ (h : Fin 32) (x : Fin 2048), sc (outsAt0 m c (t.val - 1) (by omega)).2.2.2.2.2.1 (iblk m c 3 t) (iblk m c 4 t) h x = s h (n + x))
    (hv : ∀ (k : Fin 512) (x : Fin 2048), dq (iblk m c 5 t) (iblk m c 6 t) k x = v k (n + x))
    (hI : Inv s v n (outsAt0 m c (t.val - 1) (by omega)).2.2.2.2.2.2.1 (outsAt0 m c (t.val - 1) (by omega)).2.2.2.2.2.2.2.1
      (outsAt0 m c (t.val - 1) (by omega)).2.2.2.2.2.2.2.2)
    (h : Fin 32) (d : Fin 128) (hr : ∀ k i, i < n + 2048 → ∃ r : ℝ, v k i = (r : EReal))
    (hsn : newS (iblk m c 0 t) (iblk m c 1 t) h = s h (n + 2048))
    (hvn : newV (iblk m c 2 t) (⟨h.val / 8, by omega⟩ : Fin 4) d = v (⟨4 * d.val + h.val / 8, by omega⟩ : Fin 512) (n + 2048)) :
    (outsAt0 m c t.val t.isLt).1 (ix3 0 h d)
      = Ideal.div (num (s h) (v (⟨4 * d.val + h.val / 8, by omega⟩ : Fin 512)) (n + 2048 + 1)) (den (s h) (n + 2048 + 1)) := by
  rw [outsAt0_C m c t h0 h1]
  frame_out
  simp only [read_unread_whole, View.readCov_unit_lit', View.readCov_cons_unit_lit']
  refine finish_y _ _ _ _ _ _ (s h) (v (⟨4 * d.val + h.val / 8, by omega⟩ : Fin 512)) (n + 2048) h d ?_ ?_ ?_ (fun k => ?_) hsn hvn
  · exact upd_m _ _ (s h) n h (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h)
  · exact upd_l _ _ _ (s h) n h (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h) (hI.2.1 h)
  · exact upd_acc _ _ _ (s h) (v (⟨4 * d.val + h.val / 8, by omega⟩ : Fin 512)) n h (⟨4 * d.val + h.val / 8, by omega⟩ : Fin 512) (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h) (hI.2.2 h (⟨4 * d.val + h.val / 8, by omega⟩ : Fin 512)) _ _ _ _ _ _ _ _ _ _ _ _ _ _ _ _ _ _ _ _ _ _ _ _
      (fun x => read_fill h _ _ _ _ 0 (by omega) _ x)
      (fun x => read_fill h _ _ _ _ 1 (by omega) _ x)
      (fun x => read_fill h _ _ _ _ 2 (by omega) _ x)
      (fun x => read_fill h _ _ _ _ 3 (by omega) _ x)
      (fun x => read_fill h _ _ _ _ 4 (by omega) _ x)
      (fun x => read_fill h _ _ _ _ 5 (by omega) _ x)
      (fun x => read_fill h _ _ _ _ 6 (by omega) _ x)
      (fun x => read_fill h _ _ _ _ 7 (by omega) _ x)
      (fun x => (deq_chunk _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 0 + x.val = 0 * 256 + x.val; omega))))
      (fun x => (deq_chunk _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 1 + x.val = 1 * 256 + x.val; omega))))
      (fun x => (deq_chunk _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 2 + x.val = 2 * 256 + x.val; omega))))
      (fun x => (deq_chunk _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 3 + x.val = 3 * 256 + x.val; omega))))
      (fun x => (deq_chunk _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 4 + x.val = 4 * 256 + x.val; omega))))
      (fun x => (deq_chunk _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 5 + x.val = 5 * 256 + x.val; omega))))
      (fun x => (deq_chunk _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 6 + x.val = 6 * 256 + x.val; omega))))
      (fun x => (deq_chunk _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) (⟨4 * d.val + h.val / 8, by omega⟩ : Fin 512) x).trans ((hv (⟨4 * d.val + h.val / 8, by omega⟩ : Fin 512) _).trans (congrArg (fun i => v (⟨4 * d.val + h.val / 8, by omega⟩ : Fin 512) (n + i)) (by show 256 * 7 + x.val = 7 * 256 + x.val; omega))))
  · obtain ⟨r, e⟩ := num_real (s h) (v k) (n + 2048) (hr k)
    exact ⟨r, (upd_acc _ _ _ (s h) (v k) n h k (fun x => (read_scores _ (fun x => s h (n + x)) h _ _ _ _ _ _ _ _ _ _ _ _ _ _ _ _ _
      (fun y => (congrFun (pay41_eq _ _ _) _).trans ((scores_chunk _ _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay42_eq _ _ _) _).trans ((scores_chunk _ _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay45_eq _ _ _) _).trans ((scores_chunk _ _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay46_eq _ _ _) _).trans ((scores_chunk _ _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay48_eq _ _ _) _).trans ((scores_chunk _ _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay49_eq _ _ _) _).trans ((scores_chunk _ _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay51_eq _ _ _) _).trans ((scores_chunk _ _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      (fun y => (congrFun (pay52_eq _ _ _) _).trans ((scores_chunk _ _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) h y).trans (hs h _)))
      x)) (hI.1 h) (hI.2.2 h k) _ _ _ _ _ _ _ _ _ _ _ _ _ _ _ _ _ _ _ _ _ _ _ _
      (fun x => read_fill h _ _ _ _ 0 (by omega) _ x)
      (fun x => read_fill h _ _ _ _ 1 (by omega) _ x)
      (fun x => read_fill h _ _ _ _ 2 (by omega) _ x)
      (fun x => read_fill h _ _ _ _ 3 (by omega) _ x)
      (fun x => read_fill h _ _ _ _ 4 (by omega) _ x)
      (fun x => read_fill h _ _ _ _ 5 (by omega) _ x)
      (fun x => read_fill h _ _ _ _ 6 (by omega) _ x)
      (fun x => read_fill h _ _ _ _ 7 (by omega) _ x)
      (fun x => (deq_chunk _ _ 0 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 0 + x.val = 0 * 256 + x.val; omega))))
      (fun x => (deq_chunk _ _ 1 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 1 + x.val = 1 * 256 + x.val; omega))))
      (fun x => (deq_chunk _ _ 2 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 2 + x.val = 2 * 256 + x.val; omega))))
      (fun x => (deq_chunk _ _ 3 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 3 + x.val = 3 * 256 + x.val; omega))))
      (fun x => (deq_chunk _ _ 4 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 4 + x.val = 4 * 256 + x.val; omega))))
      (fun x => (deq_chunk _ _ 5 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 5 + x.val = 5 * 256 + x.val; omega))))
      (fun x => (deq_chunk _ _ 6 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 6 + x.val = 6 * 256 + x.val; omega))))
      (fun x => (deq_chunk _ _ 7 (by omega) _ _ (fun r d => View.ld_unit_apply_of _ _ _ _ _ _ (fun a => by fin_cases a <;> first | rfl | exact (Nat.zero_add _).symm)) (fun n t => View.ld_unit_apply_of _ _ _ _ _ _ (fun a => by fin_cases a <;> first | rfl | exact (Nat.zero_add _).symm)) k x).trans ((hv k _).trans (congrArg (fun i => v k (n + i)) (by show 256 * 7 + x.val = 7 * 256 + x.val; omega))))).trans e⟩

end Cert.KernelIdeal.Attn
-- ==== Proof.NewToken.lean ====
module
public import proofs.«01_k».proof.Proof.Step
@[expose] public section
/-!
  The new token's key and value as the kernel quantizes them.
-/
set_option maxRecDepth 16384
noncomputable section
namespace Cert.KernelIdeal.Attn
open Cert.KernelIdeal Cert.KernelIdeal.Gen Cert.Attn Idealize.ShloMosaic Idealize.ShloMosaic.TcCoe Idealize.SL.Sem
variable (x : Vec Ideal S1x4x128 .bf16)

/-- The scale of the key. -/
theorem pay4_at (n : Fin 4) : k0_pay4 (F := Ideal) x (ix2 n 0) = qscale fun d => (x (ix3 0 n d) : EReal) := by
  pointwise [k0_pay4, k0_pay3]
  rw [ofBits_neg_inf]
  rfl

/-- The rounded and clipped key. -/
theorem pay5_at (n : Fin 4) (d : Fin 128) : k0_pay5 (F := Ideal) x (ix2 n d) = qval (fun d => (x (ix3 0 n d) : EReal)) d := by
  pointwise [k0_pay5]
  rw [pay4_at]
  pointwise [k0_pay3]
  rfl

/-- The new value's scales are computed as the new key's are. -/
theorem pay7_eq : k0_pay7 (F := Ideal) x = k0_pay4 x := rfl
/-- The new value's codes are computed as the new key's are. -/
theorem pay8_eq : k0_pay8 (F := Ideal) x = k0_pay5 x := rfl

/-- The new key, quantized and dequantized. -/
theorem newK_at (n : Fin 4) (d : Fin 128) :
    newK x n d = qval (fun d => (x (ix3 0 n d) : EReal)) d * qscale fun d => (x (ix3 0 n d) : EReal) := by
  unfold newK; rw [pay4_at, pay5_at]

/-- The new value, quantized and dequantized. -/
theorem newV_at (n : Fin 4) (d : Fin 128) :
    newV x n d = qval (fun d => (x (ix3 0 n d) : EReal)) d * qscale fun d => (x (ix3 0 n d) : EReal) := newK_at x n d

variable (m : (ℓ : Loc nD τ sig) → Buf (Elt Ideal) ℓ)

/-- What the last block of a row stores as the key's codes, -/
theorem stepC_knc (c : Dev nD) (t : Fin cfg0.N) (h0 : ¬ t.val % 8 = 0) (h1 : t.val % 8 = 7) (n : Fin 4) (d : Fin 128) :
    (outsAt0 m c t.val t.isLt).2.1 (ix3 0 n d) = FloatOps.fptosi (F := Ideal) (φ := .f32) 8 (qval (fun d => (iblk m c 1 t (ix3 0 n d) : EReal)) d) := by
  rw [outsAt0_C m c t h0 h1]
  frame_out
  rw [← pay5_at]
  pointwise [k0_pay10, k0_pay9]

/-- the key's scales, -/
theorem stepC_kns (c : Dev nD) (t : Fin cfg0.N) (h0 : ¬ t.val % 8 = 0) (h1 : t.val % 8 = 7) (n : Fin 4) :
    (outsAt0 m c t.val t.isLt).2.2.1 (ix3 0 n 0) = qscale fun d => (iblk m c 1 t (ix3 0 n d) : EReal) := by
  rw [outsAt0_C m c t h0 h1]
  frame_out
  rw [← pay4_at]
  pointwise [k0_pay12]

/-- the value's codes, -/
theorem stepC_vnc (c : Dev nD) (t : Fin cfg0.N) (h0 : ¬ t.val % 8 = 0) (h1 : t.val % 8 = 7) (n : Fin 4) (d : Fin 128) :
    (outsAt0 m c t.val t.isLt).2.2.2.1 (ix3 0 n d) = FloatOps.fptosi (F := Ideal) (φ := .f32) 8 (qval (fun d => (iblk m c 2 t (ix3 0 n d) : EReal)) d) := by
  rw [outsAt0_C m c t h0 h1]
  frame_out
  rw [← pay5_at, ← pay8_eq]
  pointwise [k0_pay11]

/-- and the value's scales. -/
theorem stepC_vns (c : Dev nD) (t : Fin cfg0.N) (h0 : ¬ t.val % 8 = 0) (h1 : t.val % 8 = 7) (n : Fin 4) :
    (outsAt0 m c t.val t.isLt).2.2.2.2.1 (ix3 0 n 0) = qscale fun d => (iblk m c 2 t (ix3 0 n d) : EReal) := by
  rw [outsAt0_C m c t h0 h1]
  frame_out
  rw [← pay4_at, ← pay7_eq]
  pointwise [k0_pay13]

end Cert.KernelIdeal.Attn
-- ==== Proof.Arrays.lean ====
module
public import proofs.«01_k».proof.Proof.NewToken
public import Idealize.ShloMosaic.Lib.Claim
@[expose] public section
/-!
  What the blocks of one grid point hold, as entries of the program's arguments.
-/
set_option maxRecDepth 16384
noncomputable section
namespace Cert.KernelIdeal.Attn
open Cert.KernelIdeal Cert.KernelIdeal.Gen Cert.Attn Idealize.ShloMosaic Idealize.ShloMosaic.TcCoe Idealize.SL.Sem
variable (m : (ℓ : Loc nD τ sig) → Buf (Elt Ideal) ℓ) (c : Dev nD)

/-- The blocks of grid point `t`: batch `t / 8`, tokens `2048 (t % 8)` on. -/
theorem idx : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = 0 ∧ win0_4.index t (2 : Fin 3) = t.val % 8)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = 0 ∧ win0_6.index t (2 : Fin 3) = t.val % 8) :=
  (by decide +kernel : ∀ t : Fin grid0.N, _)

/-- The grid has 64 times 8 points. -/
theorem lt_N (t : Fin cfg0.N) : t.val < 512 := lt_of_lt_of_eq t.isLt (by decide)

/-- The query rows of batch `b`. -/
def rq (b : Fin 64) (h : Fin 32) (d : Fin 128) : EReal := m ((c : Thread nD τ).loc main_arg0) (ix3 b (0 : Fin 1) (⟨128 * h.val + d.val, by omega⟩ : Fin 4096))
/-- The new keys of batch `b`. -/
def rkn (b : Fin 64) (n : Fin 4) (d : Fin 128) : EReal := m ((c : Thread nD τ).loc main_arg1) (ix4 b (0 : Fin 1) n d)
/-- The new values of batch `b`. -/
def rvn (b : Fin 64) (n : Fin 4) (d : Fin 128) : EReal := m ((c : Thread nD τ).loc main_arg2) (ix4 b (0 : Fin 1) n d)
/-- The cached key codes of batch `b`. -/
def rkc (b : Fin 64) (i : Fin 16384) (n : Fin 4) (d : Fin 128) : BitVec 8 := m ((c : Thread nD τ).loc main_arg3) (ix4 b i n d)
/-- The cached key scales of batch `b`. -/
def rks (b : Fin 64) (i : Fin 16384) (n : Fin 4) : EReal := m ((c : Thread nD τ).loc main_arg4) (ix3 b i n)
/-- The cached value codes of batch `b`. -/
def rvc (b : Fin 64) (i : Fin 16384) (n : Fin 4) (d : Fin 128) : BitVec 8 := m ((c : Thread nD τ).loc main_arg5) (ix4 b i n d)
/-- The cached value scales of batch `b`. -/
def rvs (b : Fin 64) (i : Fin 16384) (n : Fin 4) : EReal := m ((c : Thread nD τ).loc main_arg6) (ix3 b i n)

/-- The batch of grid point `t`. -/
abbrev bOf (t : Fin cfg0.N) : Fin 64 := ⟨t.val / 8, by have := lt_N t; omega⟩

/-- The query block at a grid point is its batch row's queries, head by head. -/
theorem blk_q (t : Fin cfg0.N) (h : Fin 32) (d : Fin 128) : (iblk m c 0 t (ix3 0 h d) : EReal) = rq m c (bOf t) h d := by
  unfold rq
  blk_point [iblk, V, idx t]
/-- The new-key block at a grid point is its batch row's new key. -/
theorem blk_kn (t : Fin cfg0.N) (n : Fin 4) (d : Fin 128) : (iblk m c 1 t (ix3 0 n d) : EReal) = rkn m c (bOf t) n d := by
  unfold rkn
  blk_point [iblk, V, idx t]
/-- The new-value block at a grid point is its batch row's new value. -/
theorem blk_vn (t : Fin cfg0.N) (n : Fin 4) (d : Fin 128) : (iblk m c 2 t (ix3 0 n d) : EReal) = rvn m c (bOf t) n d := by
  unfold rvn
  blk_point [iblk, V, idx t]
/-- The key-code block at a grid point holds the codes of 2048 consecutive tokens, four heads per token. -/
theorem blk_kc (t : Fin cfg0.N) (n : Fin 4) (x : Fin 2048) (d : Fin 128) : (iblk m c 3 t (ix3 0 (⟨4 * x.val + n.val, by omega⟩ : Fin 8192) d) : BitVec 8)
    = rkc m c (bOf t) (⟨2048 * (t.val % 8) + x.val, by omega⟩ : Fin 16384) n d := by
  unfold rkc
  blk_point [iblk, V, idx t]
/-- The key-scale block at a grid point holds the scales of the same 2048 tokens. -/
theorem blk_ks (t : Fin cfg0.N) (n : Fin 4) (x : Fin 2048) : (iblk m c 4 t (ix3 0 n x) : EReal)
    = rks m c (bOf t) (⟨2048 * (t.val % 8) + x.val, by omega⟩ : Fin 16384) n := by
  unfold rks
  blk_point [iblk, V, idx t]
/-- The value-code block at a grid point holds the codes of 2048 consecutive tokens, four heads per token. -/
theorem blk_vc (t : Fin cfg0.N) (n : Fin 4) (x : Fin 2048) (d : Fin 128) : (iblk m c 5 t (ix3 0 (⟨4 * x.val + n.val, by omega⟩ : Fin 8192) d) : BitVec 8)
    = rvc m c (bOf t) (⟨2048 * (t.val % 8) + x.val, by omega⟩ : Fin 16384) n d := by
  unfold rvc
  blk_point [iblk, V, idx t]
/-- The value-scale block at a grid point holds the scales of the same 2048 tokens. -/
theorem blk_vs (t : Fin cfg0.N) (n : Fin 4) (x : Fin 2048) : (iblk m c 6 t (ix3 0 n x) : EReal)
    = rvs m c (bOf t) (⟨2048 * (t.val % 8) + x.val, by omega⟩ : Fin 16384) n := by
  unfold rvs
  blk_point [iblk, V, idx t]

end Cert.KernelIdeal.Attn
-- ==== Proof.Fold.lean ====
module
public import proofs.«01_k».proof.Proof.Arrays
@[expose] public section
/-!
  A batch's eight blocks, one after the other, and the attention's result at its last block.
-/
set_option maxRecDepth 16384
noncomputable section
namespace Cert.KernelIdeal.Attn
open Cert.KernelIdeal Cert.KernelIdeal.Gen Cert.Attn Idealize.ShloMosaic Idealize.ShloMosaic.TcCoe Idealize.SL.Sem
variable (m : (ℓ : Loc nD τ sig) → Buf (Elt Ideal) ℓ) (c : Dev nD)

/-- A head's row over the interleaved columns `4 d + n` is zero off its own cache head: the sum keeps its own columns. -/
theorem own_sum (h : Fin 32) (a : Fin 128 → EReal) (w : Fin 512 → EReal) :
    (∑ k : Fin 512, (if h.val / 8 = k.val % 4 then a (⟨k.val / 4, by omega⟩ : Fin 128) else 0) * w k)
      = ∑ d : Fin 128, a d * w (⟨4 * d.val + h.val / 8, by omega⟩ : Fin 512) := by
  rw [Fin.sum_univ_tiles 128 4 rfl]
  refine Finset.sum_congr rfl fun d _ => ?_
  rw [Finset.sum_eq_single (⟨h.val / 8, by omega⟩ : Fin 4)]
  · rw [if_pos (by show _ = (d.val * 4 + h.val / 8) % 4; omega)]
    congr 2
    · exact Fin.ext (by show (d.val * 4 + h.val / 8) / 4 = d.val; omega)
    · exact Fin.ext (by show d.val * 4 + h.val / 8 = 4 * d.val + h.val / 8; omega)
  · intro n _ hn
    rw [if_neg (fun e => hn (Fin.ext (by
      have e' : h.val / 8 = (d.val * 4 + n.val) % 4 := e
      show n.val = h.val / 8; omega))), zero_mul]
  · intro hn; exact absurd (Finset.mem_univ _) hn

/-- The scores of batch `b`. -/
abbrev sB (b : Fin 64) (h : Fin 32) : ℕ → EReal := score (rq m c b) (rkc m c b) (rks m c b) (rkn m c b) h

/-- The values of batch `b`, column `k` holding coordinate `k / 4` of cache head `k % 4`. -/
abbrev vB (b : Fin 64) (k : Fin 512) : ℕ → EReal :=
  deqRow (rvc m c b) (rvs m c b) (rvn m c b) (⟨k.val % 4, by omega⟩ : Fin 4) (⟨k.val / 4, by omega⟩ : Fin 128)

/-- The query rows, each on the columns of its own cache head. -/
def OwnQ (b : Fin 64) (QX : Vec Ideal S32x512 .bf16) : Prop :=
  ∀ (h : Fin 32) (k : Fin 512), (QX (ix2 h k) : EReal) = if h.val / 8 = k.val % 4 then rq m c b h (⟨k.val / 4, by omega⟩ : Fin 128) else 0

variable (b : Fin 64) (t : Fin cfg0.N)

/-- A grid point of batch row `b` has batch row `b`. -/
theorem bOf_eq (hb : t.val / 8 = b.val) : bOf t = b := Fin.ext hb

/-- A cached entry of a key block. -/
theorem dq_k (hb : t.val / 8 = b.val) (k : Fin 512) (x : Fin 2048) : dq (iblk m c 3 t) (iblk m c 4 t) k x
    = deqRow (rkc m c b) (rks m c b) (rkn m c b) (⟨k.val % 4, by omega⟩ : Fin 4) (⟨k.val / 4, by omega⟩ : Fin 128) (2048 * (t.val % 8) + x.val) := by
  obtain rfl : b = bOf t := (bOf_eq b t hb).symm
  unfold dq deqRow seq
  rw [dif_pos (by omega)]
  have e1 := blk_kc m c t (⟨k.val % 4, by omega⟩ : Fin 4) x (⟨k.val / 4, by omega⟩ : Fin 128)
  have e2 := blk_ks m c t (⟨k.val % 4, by omega⟩ : Fin 4) x
  exact congr (congrArg (fun z : BitVec 8 => (((z.toInt : ℝ) : EReal) * ·)) e1) e2

/-- A cached entry of a value block. -/
theorem dq_v (hb : t.val / 8 = b.val) (k : Fin 512) (x : Fin 2048) : dq (iblk m c 5 t) (iblk m c 6 t) k x = vB m c b k (2048 * (t.val % 8) + x.val) := by
  obtain rfl : b = bOf t := (bOf_eq b t hb).symm
  unfold dq vB deqRow seq
  rw [dif_pos (by omega)]
  have e1 := blk_vc m c t (⟨k.val % 4, by omega⟩ : Fin 4) x (⟨k.val / 4, by omega⟩ : Fin 128)
  have e2 := blk_vs m c t (⟨k.val % 4, by omega⟩ : Fin 4) x
  exact congr (congrArg (fun z : BitVec 8 => (((z.toInt : ℝ) : EReal) * ·)) e1) e2

/-- The block's scores are the batch's. -/
theorem sc_eq (hb : t.val / 8 = b.val) (QX : Vec Ideal S32x512 .bf16) (hq : OwnQ m c b QX) (h : Fin 32) (x : Fin 2048) :
    sc QX (iblk m c 3 t) (iblk m c 4 t) h x = sB m c b h (2048 * (t.val % 8) + x.val) := by
  unfold sc sB score
  simp only [hq h]
  rw [own_sum h (rq m c b h)]
  refine congrArg (· * SM) (Finset.sum_congr rfl fun d _ => congrArg (rq m c b h d * ·) ?_)
  rw [dq_k m c b t hb]
  congr 1
  · exact Fin.ext (by show (4 * d.val + h.val / 8) % 4 = h.val / 8; omega)
  · exact Fin.ext (by show (4 * d.val + h.val / 8) / 4 = d.val; omega)

/-- The first block spreads the query rows. -/
theorem ownQ_A (hb : t.val / 8 = b.val) : OwnQ m c b (k0_pay35 (F := Ideal) k0_pay30 k0_pay31 k0_pay32 k0_pay33 (iblk m c 0 t)) := by
  intro h k
  rw [pay35_at, blk_q, bOf_eq b t hb]

/-- The running quantities after block `t` of batch `b`, the last block aside. -/
theorem fold_inv (j : ℕ) (hj : j < 7) : ∀ (t : Fin cfg0.N), t.val / 8 = b.val → t.val % 8 = j →
    OwnQ m c b (outsAt0 m c t.val t.isLt).2.2.2.2.2.1
    ∧ Inv (sB m c b) (vB m c b) (2048 * j + 2048) (outsAt0 m c t.val t.isLt).2.2.2.2.2.2.1 (outsAt0 m c t.val t.isLt).2.2.2.2.2.2.2.1
        (outsAt0 m c t.val t.isLt).2.2.2.2.2.2.2.2 := by
  induction j with
  | zero =>
    intro t hb ht
    have h1 : ¬ t.val % 8 = 7 := by omega
    refine ⟨by rw [qxA m c t ht h1]; exact ownQ_A m c b t hb, ?_⟩
    refine stepA m c t ht h1 _ _ (fun h x => ?_) (fun k x => ?_)
    · rw [sc_eq m c b t hb _ (ownQ_A m c b t hb), ht]
    · rw [dq_v m c b t hb, ht]
  | succ j ih =>
    intro t hb ht
    have h0 : ¬ t.val % 8 = 0 := by omega
    have h1 : ¬ t.val % 8 = 7 := by omega
    obtain ⟨hq, hI⟩ := ih (by omega) (⟨t.val - 1, by omega⟩ : Fin cfg0.N) (by show (t.val - 1) / 8 = _; omega) (by show (t.val - 1) % 8 = _; omega)
    refine ⟨by rw [qxB m c t h0 h1]; exact hq, ?_⟩
    refine stepB m c t h0 h1 _ _ (2048 * (j + 1)) (fun h x => ?_) (fun k x => ?_) hI
    · rw [sc_eq m c b t hb _ hq, ht]
    · rw [dq_v m c b t hb, ht]

/-- The cached values are real when their scales are. -/
theorem vB_real (hf : ∀ i n, ∃ r : ℝ, rvs m c b i n = (r : EReal)) (k : Fin 512) (i : ℕ) (hi : i < 16384) : ∃ r : ℝ, vB m c b k i = (r : EReal) := by
  obtain ⟨r, hr⟩ := hf (⟨i, hi⟩ : Fin 16384) (⟨k.val % 4, by omega⟩ : Fin 4)
  unfold vB deqRow seq
  rw [dif_pos hi]
  simp only [hr]
  exact ⟨_, (EReal.coe_mul _ _).symm⟩

/-- A batch's last block stores the attention's result. -/
theorem last_y (hf : ∀ i n, ∃ r : ℝ, rvs m c b i n = (r : EReal)) (hb : t.val / 8 = b.val) (ht : t.val % 8 = 7) (h : Fin 32) (d : Fin 128) :
    ((outsAt0 m c t.val t.isLt).1 (ix3 0 h d) : EReal)
      = attn (rq m c b) (rkc m c b) (rks m c b) (rkn m c b) (rvc m c b) (rvs m c b) (rvn m c b) h d := by
  obtain ⟨hq, hI⟩ := fold_inv m c b 6 (by omega) (⟨t.val - 1, by omega⟩ : Fin cfg0.N) (by show (t.val - 1) / 8 = _; omega) (by show (t.val - 1) % 8 = _; omega)
  refine (stepC m c t (by omega) ht (sB m c b) (vB m c b) 14336 (fun h x => ?_) (fun k x => ?_) hI h d (fun k i hi => vB_real m c b hf k i hi) ?_ ?_).trans ?_
  · rw [sc_eq m c b t hb _ hq, ht]
  · rw [dq_v m c b t hb, ht]
  · unfold newS sB score deqRow seq
    have hn : ¬ (14336 + 2048 < 16384) := by omega
    simp only [dif_neg hn, newK_at, blk_q, blk_kn, bOf_eq b t hb]
  · unfold vB deqRow seq
    rw [dif_neg (by omega), newV_at]
    simp only [blk_vn, bOf_eq b t hb]
    have e1 : (⟨(4 * d.val + h.val / 8) % 4, by omega⟩ : Fin 4) = (⟨h.val / 8, by omega⟩ : Fin 4) := Fin.ext (by show (4 * d.val + h.val / 8) % 4 = h.val / 8; omega)
    have e2 : (⟨(4 * d.val + h.val / 8) / 4, by omega⟩ : Fin 128) = d := Fin.ext (by show (4 * d.val + h.val / 8) / 4 = d.val; omega)
    rw [e1, e2]
  · have e1 : (⟨(4 * d.val + h.val / 8) % 4, by omega⟩ : Fin 4) = (⟨h.val / 8, by omega⟩ : Fin 4) := Fin.ext (by show (4 * d.val + h.val / 8) % 4 = h.val / 8; omega)
    have e2 : (⟨(4 * d.val + h.val / 8) / 4, by omega⟩ : Fin 128) = d := Fin.ext (by show (4 * d.val + h.val / 8) / 4 = d.val; omega)
    unfold attn vB
    simp only [e1, e2]

end Cert.KernelIdeal.Attn
-- ==== Proof.Final.lean ====
module
public import proofs.«01_k».proof.Proof.Fold
@[expose] public section
/-!
  The kernel's five result arrays.
-/
set_option maxRecDepth 16384
noncomputable section
namespace Cert.KernelIdeal.Attn
open Cert.KernelIdeal Cert.KernelIdeal.Gen Cert.Attn Idealize.ShloMosaic Idealize.ShloMosaic.TcCoe Idealize.SL.Sem
variable (m : (ℓ : Loc nD τ sig) → Buf (Elt Ideal) ℓ) (c : Dev nD)

/-- The results' blocks of grid point `t`: batch `t / 8`. -/
theorem oidx : ∀ t : Fin cfg0.N,
    (win0_7.index t (0 : Fin 3) = t.val / 8 ∧ win0_7.index t (1 : Fin 3) = 0 ∧ win0_7.index t (2 : Fin 3) = 0)
    ∧ (win0_8.index t (0 : Fin 3) = t.val / 8 ∧ win0_8.index t (1 : Fin 3) = 0 ∧ win0_8.index t (2 : Fin 3) = 0)
    ∧ (win0_9.index t (0 : Fin 3) = t.val / 8 ∧ win0_9.index t (1 : Fin 3) = 0 ∧ win0_9.index t (2 : Fin 3) = 0)
    ∧ (win0_10.index t (0 : Fin 3) = t.val / 8 ∧ win0_10.index t (1 : Fin 3) = 0 ∧ win0_10.index t (2 : Fin 3) = 0)
    ∧ (win0_11.index t (0 : Fin 3) = t.val / 8 ∧ win0_11.index t (1 : Fin 3) = 0 ∧ win0_11.index t (2 : Fin 3) = 0) :=
  (by decide +kernel : ∀ t : Fin grid0.N, _)

/-- The attention's results. -/
theorem arr_y (hf : ∀ b i n, ∃ r : ℝ, rvs m c b i n = (r : EReal)) : (dats m 0 c).arrAt 7 cfg0.N
    = fun i => attn (rq m c (i 0)) (rkc m c (i 0)) (rks m c (i 0)) (rkn m c (i 0)) (rvc m c (i 0)) (rvs m c (i 0)) (rvn m c (i 0)) (i 1) (i 2) := by
  refine (dats m 0 c).arrAt_eq_of_covers 7 _ (by decide +kernel) fun t hf' y => ?_
  have ht := (flush0_7 t).mp hf'
  blk_simp
  rw [after0_7]
  have ey : (y : S1x32x128.Idx) = ix3 (0 : Fin 1) (y 1) (y 2) := by idx_ext
  have e0 : (win0_7.blk t).view.emb y 0 = bOf t := by apply Fin.ext; blk_simp [oidx t]
  have e1 : (win0_7.blk t).view.emb y 1 = y 1 := by apply Fin.ext; blk_simp [oidx t]
  have e2 : (win0_7.blk t).view.emb y 2 = y 2 := by apply Fin.ext; blk_simp [oidx t]
  simp only [e0, e1, e2]
  refine (congrArg _ ey).trans ?_
  exact last_y m c (bOf t) t (hf _) rfl ht _ _

/-- The new keys' codes. -/
theorem arr_knc : (dats m 0 c).arrAt 8 cfg0.N
    = fun i => FloatOps.fptosi (F := Ideal) (φ := .f32) 8 (qval (rkn m c (i 0) (i 1)) (i 2)) := by
  refine (dats m 0 c).arrAt_eq_of_covers 8 _ (by decide +kernel) fun t hf' y => ?_
  have ht := (flush0_8 t).mp hf'
  blk_simp
  rw [after0_8]
  have ey : (y : S1x4x128.Idx) = ix3 (0 : Fin 1) (y 1) (y 2) := by idx_ext
  have e0 : (win0_8.blk t).view.emb y 0 = bOf t := by apply Fin.ext; blk_simp [oidx t]
  have e1 : (win0_8.blk t).view.emb y 1 = y 1 := by apply Fin.ext; blk_simp [oidx t]
  have e2 : (win0_8.blk t).view.emb y 2 = y 2 := by apply Fin.ext; blk_simp [oidx t]
  simp only [e0, e1, e2]
  refine (congrArg _ ey).trans ?_
  exact (stepC_knc m c t (by omega) ht _ _).trans
    (congrArg (fun r => FloatOps.fptosi (F := Ideal) (φ := .f32) 8 (qval r _)) (funext fun d => blk_kn m c t _ d))

/-- The new values' codes. -/
theorem arr_vnc : (dats m 0 c).arrAt 10 cfg0.N
    = fun i => FloatOps.fptosi (F := Ideal) (φ := .f32) 8 (qval (rvn m c (i 0) (i 1)) (i 2)) := by
  refine (dats m 0 c).arrAt_eq_of_covers 10 _ (by decide +kernel) fun t hf' y => ?_
  have ht := (flush0_10 t).mp hf'
  blk_simp
  rw [after0_10]
  have ey : (y : S1x4x128.Idx) = ix3 (0 : Fin 1) (y 1) (y 2) := by idx_ext
  have e0 : (win0_10.blk t).view.emb y 0 = bOf t := by apply Fin.ext; blk_simp [oidx t]
  have e1 : (win0_10.blk t).view.emb y 1 = y 1 := by apply Fin.ext; blk_simp [oidx t]
  have e2 : (win0_10.blk t).view.emb y 2 = y 2 := by apply Fin.ext; blk_simp [oidx t]
  simp only [e0, e1, e2]
  refine (congrArg _ ey).trans ?_
  exact (stepC_vnc m c t (by omega) ht _ _).trans
    (congrArg (fun r => FloatOps.fptosi (F := Ideal) (φ := .f32) 8 (qval r _)) (funext fun d => blk_vn m c t _ d))

/-- The new keys' scales. -/
theorem arr_kns : (dats m 0 c).arrAt 9 cfg0.N
    = fun i => qscale (rkn m c (i 0) (i 1)) := by
  refine (dats m 0 c).arrAt_eq_of_covers 9 _ (by decide +kernel) fun t hf' y => ?_
  have ht := (flush0_9 t).mp hf'
  blk_simp
  rw [after0_9]
  have ey : (y : S1x4x1.Idx) = ix3 (0 : Fin 1) (y 1) (0 : Fin 1) := by idx_ext
  have e0 : (win0_9.blk t).view.emb y 0 = bOf t := by apply Fin.ext; blk_simp [oidx t]
  have e1 : (win0_9.blk t).view.emb y 1 = y 1 := by apply Fin.ext; blk_simp [oidx t]
  have e2 : (win0_9.blk t).view.emb y 2 = y 2 := by apply Fin.ext; blk_simp [oidx t]
  simp only [e0, e1, e2]
  refine (congrArg _ ey).trans ?_
  exact (stepC_kns m c t (by omega) ht _).trans (congrArg qscale (funext fun d => blk_kn m c t _ d))

/-- The new values' scales. -/
theorem arr_vns : (dats m 0 c).arrAt 11 cfg0.N
    = fun i => qscale (rvn m c (i 0) (i 1)) := by
  refine (dats m 0 c).arrAt_eq_of_covers 11 _ (by decide +kernel) fun t hf' y => ?_
  have ht := (flush0_11 t).mp hf'
  blk_simp
  rw [after0_11]
  have ey : (y : S1x4x1.Idx) = ix3 (0 : Fin 1) (y 1) (0 : Fin 1) := by idx_ext
  have e0 : (win0_11.blk t).view.emb y 0 = bOf t := by apply Fin.ext; blk_simp [oidx t]
  have e1 : (win0_11.blk t).view.emb y 1 = y 1 := by apply Fin.ext; blk_simp [oidx t]
  have e2 : (win0_11.blk t).view.emb y 2 = y 2 := by apply Fin.ext; blk_simp [oidx t]
  simp only [e0, e1, e2]
  refine (congrArg _ ey).trans ?_
  exact (stepC_vns m c t (by omega) ht _).trans (congrArg qscale (funext fun d => blk_vn m c t _ d))

end Cert.KernelIdeal.Attn
-- ==== Proof.Finite.lean ====
module
public import proofs.«01_k».proof.Defs
public import proofs.«01_k».proof.Proof.Final
@[expose] public section
/-!
  What the precondition says: no value-cache scale is infinite, so each is a real number.
-/
set_option maxRecDepth 16384
noncomputable section
namespace Cert.Pre_value_scales_finite.Gen
open Cert.Pre_value_scales_finite Idealize.ShloMosaic

/-- The precondition's one broadcast, of a scalar to the scales' shape, is well formed. -/
theorem facts : Cert.Pre_value_scales_finite.Facts where
  bcast_S_S64x16384x4 := by decide +kernel

end Cert.Pre_value_scales_finite.Gen

namespace Cert.KernelIdeal.Attn
open Cert.KernelIdeal Cert.KernelIdeal.Gen Cert.Attn Idealize.ShloMosaic Idealize.ShloMosaic.TcCoe Idealize.SL.Sem

/-- An extended real whose absolute value compares below +∞ is a real number. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable (m : (ℓ : Loc nD τ sig) → Buf (Elt Ideal) ℓ) (c : Dev nD)

/-- Under the precondition every scale of the value cache is a real number. -/
theorem scales_real [Cert.Pre_value_scales_finite.Facts] (h : Cert.Pre_KernelIdeal_value_scales_finite m) (b : Fin 64) (i : Fin 16384) (n : Fin 4) :
    ∃ r : ℝ, rvs m c b i n = (r : EReal) :=
  real_of_abs_lt _ (congrFun (h c) (ix3 b i n))

end Cert.KernelIdeal.Attn
-- ==== Proof.Quant.lean ====
module
public import proofs.«01_k».proof.Proof.Spec
@[expose] public section
/-!
  The quantised entry is an integer between -127 and 127: what its conversions to integers, and back, give.
-/
noncomputable section
namespace Cert.Attn
open Idealize.ShloMosaic

/-- The constant 127. -/
theorem ofBits_127 : Ideal.ofBits .f32 0x42FE0000#32 = ((127 : ℝ) : EReal) := by
  simp [Ideal.ofBits, Ideal.ieee, -EReal.coe_mul]; norm_num

/-- The constant -127. -/
theorem ofBits_neg_127 : Ideal.ofBits .f32 0xC2FE0000#32 = ((-127 : ℝ) : EReal) := by
  simp [Ideal.ofBits, Ideal.ieee, -EReal.coe_mul, -EReal.coe_neg]; norm_num

/-- A rounded and clipped value is an integer between the bounds, an infinite one included. -/
theorem clip_int (f : ℝ → ℤ) (x : EReal) : ∃ z : ℤ, -127 ≤ z ∧ z ≤ 127 ∧
    min ((127 : ℝ) : EReal) (max ((-127 : ℝ) : EReal) (Ideal.liftRound f x)) = ((z : ℝ) : EReal) := by
  induction x with
  | bot => exact ⟨-127, by omega, by omega, by rw [Ideal.liftRound_bot, max_eq_left bot_le, min_eq_right (by norm_cast)]; norm_num⟩
  | top => exact ⟨127, by omega, by omega, by rw [Ideal.liftRound_top, max_eq_right le_top, min_eq_left le_top]; norm_num⟩
  | coe r =>
    refine ⟨min 127 (max (-127) (f r)), by omega, by omega, ?_⟩
    have hM := EReal.coe_strictMono.monotone
    rw [Ideal.liftRound_coe, ← hM.map_max, ← hM.map_min]
    push_cast; rfl

/-- The quantised entry as an integer. -/
theorem qval_int (x : Fin 128 → EReal) (d : Fin 128) : ∃ z : ℤ, -127 ≤ z ∧ z ≤ 127 ∧ qval x d = ((z : ℝ) : EReal) := by
  obtain ⟨z, h1, h2, h3⟩ := clip_int Ideal.roundHalfEven (Ideal.div (x d) (qscale x))
  exact ⟨z, h1, h2, by unfold qval; rw [ofBits_127, ofBits_neg_127]; exact h3⟩

/-- An integer in range converts to itself. -/
theorem fptosi_int (w : ℕ) (z : ℤ) (h1 : -(2 ^ (w - 1) : ℕ) ≤ z) (h2 : z ≤ (2 ^ (w - 1) : ℕ) - 1) :
    Ideal.fptosi w ((z : ℝ) : EReal) = BitVec.ofInt w z := by
  show BitVec.ofInt w (max _ (min _ (if (0 : ℝ) ≤ (z : ℝ) then ⌊(z : ℝ)⌋ else ⌈(z : ℝ)⌉))) = _
  simp only [Int.floor_intCast, Int.ceil_intCast, ite_self]
  rw [min_eq_right h2, max_eq_right h1]

/-- The low byte of a 32-bit integer in [-127, 127] is the same integer in 8 bits. -/
theorem ofInt_trunc : ∀ n : Fin 255, (BitVec.ofInt 32 ((n.val : ℤ) - 127)).setWidth 8 = BitVec.ofInt 8 ((n.val : ℤ) - 127)
    ∧ ((BitVec.ofInt 8 ((n.val : ℤ) - 127)).signExtend 32).toInt = (n.val : ℤ) - 127 := by decide

/-- The 32-bit conversion's low byte is the 8-bit conversion, -/
theorem code_trunc (x : Fin 128 → EReal) (d : Fin 128) :
    (FloatOps.fptosi (F := Ideal) (φ := .f32) 32 (qval x d)).setWidth 8 = FloatOps.fptosi (F := Ideal) (φ := .f32) 8 (qval x d) := by
  obtain ⟨z, h1, h2, h3⟩ := qval_int x d
  rw [h3]
  show (Ideal.fptosi 32 _).setWidth 8 = Ideal.fptosi 8 _
  rw [fptosi_int 32 z (by norm_num; omega) (by norm_num; omega), fptosi_int 8 z (by norm_num; omega) (by norm_num; omega)]
  have := (ofInt_trunc (⟨(z + 127).toNat, by omega⟩ : Fin 255)).1
  rwa [show (((z + 127).toNat : ℕ) : ℤ) - 127 = z by omega] at this

/-- and the integer read back from that byte is the entry. -/
theorem code_back (x : Fin 128 → EReal) (d : Fin 128) :
    (((((FloatOps.fptosi (F := Ideal) (φ := .f32) 32 (qval x d)).setWidth 8).signExtend 32).toInt : ℝ) : EReal) = qval x d := by
  rw [code_trunc]
  obtain ⟨z, h1, h2, h3⟩ := qval_int x d
  rw [h3]
  show (((((Ideal.fptosi 8 _).signExtend 32).toInt : ℝ)) : EReal) = _
  rw [fptosi_int 8 z (by norm_num; omega) (by norm_num; omega)]
  have := (ofInt_trunc (⟨(z + 127).toNat, by omega⟩ : Fin 255)).2
  rw [show (((z + 127).toNat : ℕ) : ℤ) - 127 = z by omega] at this
  rw [this]

end Cert.Attn
-- ==== Proof.Ref.lean ====
module
public import proofs.«01_k».proof.Proof.Quant
public import proofs.«01_k».proof.Proof.Gen.ReferenceIdeal.Run
public import Idealize.ShloMosaic.Lib.Claim
public import Idealize.ShloMosaic.Lib.IdealHost
public import Idealize.ShloMosaic.Lib.Pointwise
public import Idealize.ShloMosaic.Lib.Pipeline.ValueKit
@[expose] public section
/-!
  The reference's results, named piece by piece.
-/
set_option maxRecDepth 16384
noncomputable section
namespace Cert.ReferenceIdeal.Attn
open Cert.ReferenceIdeal Cert.ReferenceIdeal.Gen Cert.Attn Idealize.ShloMosaic Idealize.ShloMosaic.TcCoe Idealize.SL.Sem Idealize.ShloMosaic.StableHlo

/-- The largest magnitude of each row. -/
def rAmax (x : FVec Ideal S64x1x4x128 .bf16) : FVec Ideal S64x1x4 .f32 :=
  Host.reduce FloatOps.maximumf (Host.absf (extf .f32 x bitsLt_bf16_f32)) (constant S_ .f32 0xFF800000#32) reducesTo_S64x1x4x128_S64x1x4_d3 h_S_

/-- The new token's scales. -/
def rScale (x : FVec Ideal S64x1x4x128 .bf16) : FVec Ideal S64x1x4 .f32 :=
  select (cmpf .oeq (rAmax x) (broadcastInDim S64x1x4 ![] bcast_S_S64x1x4 (constant S_ .f32 0x00000000#32))) (broadcastInDim S64x1x4 ![] bcast_S_S64x1x4 (constant S_ .f32 0x3F800000#32)) (Host.divf (rAmax x) (broadcastInDim S64x1x4 ![] bcast_S_S64x1x4 (constant S_ .f32 0x42FE0000#32)))

/-- The new token's entries, rounded and clipped. -/
def rVal (x : FVec Ideal S64x1x4x128 .bf16) : FVec Ideal S64x1x4x128 .f32 :=
  minimumf (broadcastInDim S64x1x4x128 ![] bcast_S_S64x1x4x128 (id (constant S_ .f32 0x42FE0000#32))) (maximumf (broadcastInDim S64x1x4x128 ![] bcast_S_S64x1x4x128 (id (constant S_ .f32 0xC2FE0000#32))) (Host.roundeven (Host.divf (extf .f32 x bitsLt_bf16_f32) (broadcastInDim S64x1x4x128 ![0, 1, 2, 3] bcast_S64x1x4x1_S64x1x4x128_0_1_2_3 (broadcastInDim S64x1x4x1 ![0, 1, 2] bcast_S64x1x4_S64x1x4x1_0_1_2 (rScale x))))))

/-- The new token's codes. -/
def rCode (x : FVec Ideal S64x1x4x128 .bf16) : IVec S64x1x4x128 8 := trunci 8 (fptosi 32 (rVal x)) natLt_8_32

/-- The cached rows, codes times scales. -/
def rOld (k : IVec S64x16384x4x128 8) (s : FVec Ideal S64x16384x4 .f32) : FVec Ideal S64x16384x4x128 .bf16 :=
  mulf (sitofp .bf16 (extsi 32 k natLt_8_32)) (broadcastInDim S64x16384x4x128 ![0, 1, 2, 3] bcast_S64x16384x4x1_S64x16384x4x128_0_1_2_3 (broadcastInDim S64x16384x4x1 ![0, 1, 2] bcast_S64x16384x4_S64x16384x4x1_0_1_2 (truncf .bf16 s bitsLt_bf16_f32)))

/-- The new row, codes times scales. -/
def rNew (x : FVec Ideal S64x1x4x128 .bf16) : FVec Ideal S64x1x4x128 .bf16 :=
  mulf (sitofp .bf16 (extsi 32 (rCode x) natLt_8_32)) (broadcastInDim S64x1x4x128 ![0, 1, 2, 3] bcast_S64x1x4x1_S64x1x4x128_0_1_2_3 (broadcastInDim S64x1x4x1 ![0, 1, 2] bcast_S64x1x4_S64x1x4x1_0_1_2 (truncf .bf16 (rScale x) bitsLt_bf16_f32)))

/-- All tokens' rows. -/
def rCat (a : FVec Ideal S64x16384x4x128 .bf16) (b : FVec Ideal S64x1x4x128 .bf16) : FVec Ideal S64x16385x4x128 .bf16 :=
  concatenate S64x16385x4x128 1 [⟨S64x16384x4x128, a⟩, ⟨S64x1x4x128, b⟩] concatenates_S64x16384x4x128_S64x1x4x128_S64x16385x4x128_d1

/-- Which tokens a query sees. -/
def rMask : IVec S64x4x1x8x16385 1 :=
  broadcastInDim S64x4x1x8x16385 ![0, 1, 2, 3, 4] bcast_S1x1x1x1x16385_S64x4x1x8x16385_0_1_2_3_4 (broadcastInDim S1x1x1x1x16385 ![2, 4] bcast_S1x16385_S1x1x1x1x16385_2_4 (cmpi .sle (broadcastInDim S1x16385 ![1] bcast_S16385_S1x16385_1 (iotaInDim S16385 32 0)) (broadcastInDim S1x16385 ![0, 1] bcast_S1x1_S1x16385_0_1 (addi (broadcastInDim S1x1 ![] bcast_S_S1x1 (constantI S_ 32 16384#32)) (broadcastInDim S1x1 ![0] bcast_S1_S1x1_0 (iotaInDim S1 32 0))))))

/-- The scores. -/
def rScore (q : FVec Ideal S64x1x4096 .bf16) (K : FVec Ideal S64x16385x4x128 .bf16) : FVec Ideal S64x4x1x8x16385 .f32 :=
  select rMask (mulf (Host.dotGeneral dot_S64x1x4x8x128_S64x16385x4x128_S64x4x1x8x16385_4_3_13_1_02_02 none (shapeCast S64x1x4x8x128 q shapeCasts_S64x1x4096_S64x1x4x8x128) K) (broadcastInDim S64x4x1x8x16385 ![] bcast_S_S64x4x1x8x16385 (constant S_ .f32 0x3DB504F3#32))) (broadcastInDim S64x4x1x8x16385 ![] bcast_S_S64x4x1x8x16385 (id (constant S_ .f32 0xFF800000#32)))

/-- The weights. -/
def rWt (S : FVec Ideal S64x4x1x8x16385 .f32) : FVec Ideal S64x4x1x8x16385 .f32 :=
  Host.exp (subf S (broadcastInDim S64x4x1x8x16385 ![0, 1, 2, 3, 4] bcast_S64x4x1x8x1_S64x4x1x8x16385_0_1_2_3_4 (broadcastInDim S64x4x1x8x1 ![0, 1, 2, 3] bcast_S64x4x1x8_S64x4x1x8x1_0_1_2_3 (Host.reduce FloatOps.maximumf S (constant S_ .f32 0xFF800000#32) reducesTo_S64x4x1x8x16385_S64x4x1x8_d4 h_S_))))

/-- The weighted values over the sum of the weights. -/
def rY (P : FVec Ideal S64x4x1x8x16385 .f32) (V : FVec Ideal S64x16385x4x128 .bf16) : FVec Ideal S64x32x128 .bf16 :=
  truncf .bf16 (shapeCast S64x32x128 (transpose S64x1x4x8x128 [0, 2, 1, 3, 4] (Host.divf (Host.dotGeneral dot_S64x4x1x8x16385_S64x16385x4x128_S64x4x1x8x128_4_1_23_3_01_02 none P (extf .f32 V bitsLt_bf16_f32)) (broadcastInDim S64x4x1x8x128 ![0, 1, 2, 3, 4] bcast_S64x4x1x8x1_S64x4x1x8x128_0_1_2_3_4 (broadcastInDim S64x4x1x8x1 ![0, 1, 2, 3] bcast_S64x4x1x8_S64x4x1x8x1_0_1_2_3 (Host.reduceAdd P (constant S_ .f32 0x00000000#32) reducesTo_S64x4x1x8x16385_S64x4x1x8_d4 h_S_)))) transposes_S64x4x1x8x128_S64x1x4x8x128_0_2_1_3_4) shapeCasts_S64x1x4x8x128_S64x32x128) bitsLt_bf16_f32

variable (m : (ℓ : Loc nD τ sig) → Buf (Elt Ideal) ℓ) (c : Dev nD)

/-- The reference's first result in these pieces. -/
theorem res_eq : Cert.ReferenceIdeal.Value.res_main_v83 (F := Ideal) m c
    = rY (rWt (rScore (m ((c.tc : Thread nD τ).loc main_arg0)) (rCat (rOld (m ((c.tc : Thread nD τ).loc main_arg3)) (m ((c.tc : Thread nD τ).loc main_arg4))) (rNew (m ((c.tc : Thread nD τ).loc main_arg1))))))
        (rCat (rOld (m ((c.tc : Thread nD τ).loc main_arg5)) (m ((c.tc : Thread nD τ).loc main_arg6))) (rNew (m ((c.tc : Thread nD τ).loc main_arg2)))) := by
  rfl

end Cert.ReferenceIdeal.Attn
-- ==== Proof.RefAt.lean ====
module
public import proofs.«01_k».proof.Proof.Ref
@[expose] public section
/-!
  The reference's pieces at an index.
-/
set_option maxRecDepth 16384
noncomputable section
namespace Cert.ReferenceIdeal.Attn
open Cert.ReferenceIdeal Cert.ReferenceIdeal.Gen Cert.Attn Idealize.ShloMosaic Idealize.ShloMosaic.TcCoe Idealize.SL.Sem Idealize.ShloMosaic.StableHlo

/-- The constant minus infinity. -/
theorem neg_inf : Ideal.ofBits .f32 0xFF800000#32 = ⊥ := by simp [Ideal.ofBits, Ideal.ieee]

/-- The largest magnitude of a row, at an index. -/
theorem rAmax_at (x : FVec Ideal S64x1x4x128 .bf16) (b : Fin 64) (n : Fin 4) :
    (rAmax x (ix3 b (0 : Fin 1) n) : EReal) = amax fun d => x (ix4 b (0 : Fin 1) n d) := by
  pointwise [rAmax]
  rw [neg_inf]
  rfl

/-- The scale of a new row is `qscale` of the row. -/
theorem rScale_at (x : FVec Ideal S64x1x4x128 .bf16) (b : Fin 64) (n : Fin 4) :
    (rScale x (ix3 b (0 : Fin 1) n) : EReal) = qscale fun d => x (ix4 b (0 : Fin 1) n d) := by
  pointwise [rScale]
  simp only [rAmax_at]
  rfl

/-- The rounded and clipped entry of a new row is `qval` of the row. -/
theorem rVal_at (x : FVec Ideal S64x1x4x128 .bf16) (b : Fin 64) (n : Fin 4) (d : Fin 128) :
    (rVal x (ix4 b (0 : Fin 1) n d) : EReal) = qval (fun d => x (ix4 b (0 : Fin 1) n d)) d := by
  pointwise [rVal]
  simp only [rScale_at]
  rfl

/-- The code of a new row's entry is its `qval` as an 8-bit integer. -/
theorem rCode_at (x : FVec Ideal S64x1x4x128 .bf16) (b : Fin 64) (n : Fin 4) (d : Fin 128) :
    rCode x (ix4 b (0 : Fin 1) n d) = FloatOps.fptosi (F := Ideal) (φ := .f32) 8 (qval (fun d => x (ix4 b (0 : Fin 1) n d)) d) := by
  rw [← code_trunc, ← rVal_at]
  rfl

/-- The dequantised new row: code times scale. -/
theorem rNew_at (x : FVec Ideal S64x1x4x128 .bf16) (b : Fin 64) (n : Fin 4) (d : Fin 128) :
    (rNew x (ix4 b (0 : Fin 1) n d) : EReal) = qval (fun d => x (ix4 b (0 : Fin 1) n d)) d * qscale fun d => x (ix4 b (0 : Fin 1) n d) := by
  rw [← rScale_at]
  conv_rhs => rw [← code_back]
  rw [code_trunc, ← rCode_at]
  pointwise [rNew]
  rfl

/-- A dequantised cached row: code times scale. -/
theorem rOld_at (k : IVec S64x16384x4x128 8) (s : FVec Ideal S64x16384x4 .f32) (b : Fin 64) (t : Fin 16384) (n : Fin 4) (d : Fin 128) :
    (rOld k s (ix4 b t n d) : EReal) = (((k (ix4 b t n d)).toInt : ℝ) : EReal) * s (ix3 b t n) := by
  pointwise [rOld]
  rw [show (k (ix4 b t n d)).toInt = ((k (ix4 b t n d)).signExtend 32).toInt from (BitVec.toInt_signExtend_of_le (by omega)).symm]
  rfl

/-- The joined rows: the cached tokens, then the new one. -/
theorem rCat_at (k : IVec S64x16384x4x128 8) (s : FVec Ideal S64x16384x4 .f32) (x : FVec Ideal S64x1x4x128 .bf16)
    (b : Fin 64) (t : Fin 16385) (n : Fin 4) (d : Fin 128) :
    (rCat (rOld k s) (rNew x) (ix4 b t n d) : EReal)
      = deqRow (fun t n d => k (ix4 b t n d)) (fun t n => s (ix3 b t n)) (fun n d => x (ix4 b (0 : Fin 1) n d)) n d t.val := by
  pointwise [rCat]
  simp only [rOld_at, rNew_at]
  unfold deqRow Cert.Attn.seq
  by_cases h : t.val < 16384
  · rw [dif_pos h, dif_pos h]
  · rw [dif_neg h, dif_neg h, show (⟨t.val - 16384, by omega⟩ : Fin 1) = 0 from Subsingleton.elim _ _, rNew_at]

/-- The one query comes after every cached token: it sees them all, and itself. -/
theorem sees (t : Fin 16385) : IntOp.cmpi .sle (BitVec.ofNat 32 t.val) (IntOp.addi 16384#32 0#32) = 1#1 := by
  have h : (BitVec.ofNat 32 t.val).sle 16384#32 = true := by
    rw [BitVec.sle_iff_toInt_le, BitVec.toInt_eq_toNat_of_lt (by rw [BitVec.toNat_ofNat]; omega), BitVec.toNat_ofNat]
    have : (16384#32 : BitVec 32).toInt = 16384 := by decide
    omega
  show BitVec.ofBool ((BitVec.ofNat 32 t.val).sle 16384#32) = 1#1
  rw [h]; rfl

/-- The score of a token: the product of query and key, times the softmax scale; the mask hides nothing. -/
theorem rScore_at (q : FVec Ideal S64x1x4096 .bf16) (K : FVec Ideal S64x16385x4x128 .bf16) (b : Fin 64) (n : Fin 4) (g : Fin 8) (t : Fin 16385) :
    (rScore q K (ix5 b n (0 : Fin 1) g t) : EReal)
      = (∑ d : Fin 128, (q (ix3 b (0 : Fin 1) (⟨1024 * n.val + 128 * g.val + d.val, by omega⟩ : Fin 4096)) : EReal) * K (ix4 b t n d)) * SM := by
  pointwise [rScore, rMask]
  rw [sees t]
  refine (show Scalar.select 1#1 _ _ = _ from rfl).trans (congrArg (· * SM) (Finset.sum_congr rfl fun d _ => ?_))
  congr 3
  exact Fin.ext (by show n.val * 1024 + g.val * 128 + d.val = 1024 * n.val + 128 * g.val + d.val; omega)

/-- The weight of a token: the exponential of its score less the largest score. -/
theorem rWt_at (S : FVec Ideal S64x4x1x8x16385 .f32) (s : ℕ → EReal) (b : Fin 64) (n : Fin 4) (g : Fin 8)
    (hs : ∀ t : Fin 16385, S (ix5 b n (0 : Fin 1) g t) = s t.val) (t : Fin 16385) :
    (rWt S (ix5 b n (0 : Fin 1) g t) : EReal) = wt (s t.val) (top s 16385) := by
  pointwise [rWt]
  simp only [hs, neg_inf, top_eq_fold]
  rfl

/-- The result: the weighted values over the sum of the weights. -/
theorem rY_at (P : FVec Ideal S64x4x1x8x16385 .f32) (V : FVec Ideal S64x16385x4x128 .bf16) (s v : ℕ → EReal) (b : Fin 64) (h : Fin 32) (d : Fin 128)
    (hP : ∀ t : Fin 16385, P (ix5 b (⟨h.val / 8, by omega⟩ : Fin 4) (0 : Fin 1) (⟨h.val % 8, by omega⟩ : Fin 8) t) = wt (s t.val) (top s 16385))
    (hV : ∀ t : Fin 16385, V (ix4 b t (⟨h.val / 8, by omega⟩ : Fin 4) d) = v t.val) :
    (rY P V (ix3 b h d) : EReal) = Ideal.div (num s v 16385) (den s 16385) := by
  pointwise [rY]
  simp only [hP, hV, num, den, Finset.sum_range]

/-- The reference's first result is the attention of each batch row. -/
theorem y_at (q : FVec Ideal S64x1x4096 .bf16) (kn vn : FVec Ideal S64x1x4x128 .bf16) (kc vc : IVec S64x16384x4x128 8) (ks vs : FVec Ideal S64x16384x4 .f32)
    (b : Fin 64) (h : Fin 32) (d : Fin 128) :
    (rY (rWt (rScore q (rCat (rOld kc ks) (rNew kn)))) (rCat (rOld vc vs) (rNew vn)) (ix3 b h d) : EReal)
      = attn (fun h d => q (ix3 b (0 : Fin 1) (⟨128 * h.val + d.val, by omega⟩ : Fin 4096))) (fun t n d => kc (ix4 b t n d)) (fun t n => ks (ix3 b t n))
          (fun n d => kn (ix4 b (0 : Fin 1) n d)) (fun t n d => vc (ix4 b t n d)) (fun t n => vs (ix3 b t n)) (fun n d => vn (ix4 b (0 : Fin 1) n d)) h d := by
  unfold attn
  refine rY_at _ _ _ _ b h d (fun t => rWt_at _ _ b _ _ (fun t' => ?_) t) (fun t => rCat_at vc vs vn b t _ d)
  rw [rScore_at]
  unfold score
  refine congrArg (· * SM) (Finset.sum_congr rfl fun d' _ => ?_)
  rw [rCat_at]
  refine congrArg (· * _) (congrArg (fun i => q (ix3 b (0 : Fin 1) i)) (Fin.ext ?_))
  show 1024 * (h.val / 8) + 128 * (h.val % 8) + d'.val = 128 * h.val + d'.val
  omega

end Cert.ReferenceIdeal.Attn
-- ==== Proof.RefResults.lean ====
module
public import proofs.«01_k».proof.Proof.RefAt
@[expose] public section
/-!
  The reference's five results as functions of its arguments, index by index.
-/
set_option maxRecDepth 16384
noncomputable section
namespace Cert.ReferenceIdeal.Attn
open Cert.ReferenceIdeal Cert.ReferenceIdeal.Gen Cert.Attn Idealize.ShloMosaic Idealize.ShloMosaic.TcCoe Idealize.SL.Sem Idealize.ShloMosaic.StableHlo

/-- The first result: the attention of each batch row. -/
theorem y_fun (q : FVec Ideal S64x1x4096 .bf16) (kn vn : FVec Ideal S64x1x4x128 .bf16) (kc vc : IVec S64x16384x4x128 8) (ks vs : FVec Ideal S64x16384x4 .f32) :
    rY (rWt (rScore q (rCat (rOld kc ks) (rNew kn)))) (rCat (rOld vc vs) (rNew vn))
      = fun i => attn (fun h d => q (ix3 (i 0) (0 : Fin 1) (⟨128 * h.val + d.val, by omega⟩ : Fin 4096))) (fun t n d => kc (ix4 (i 0) t n d)) (fun t n => ks (ix3 (i 0) t n))
          (fun n d => kn (ix4 (i 0) (0 : Fin 1) n d)) (fun t n d => vc (ix4 (i 0) t n d)) (fun t n => vs (ix3 (i 0) t n)) (fun n d => vn (ix4 (i 0) (0 : Fin 1) n d)) (i 1) (i 2) := by
  funext i
  obtain ⟨b, h, d, rfl⟩ : ∃ (b : Fin 64) (h : Fin 32) (d : Fin 128), i = ix3 b h d := ⟨i 0, i 1, i 2, by idx_ext⟩
  exact y_at q kn vn kc vc ks vs b h d

/-- The codes of a new row, without the axis of length one. -/
theorem code_fun (x : FVec Ideal S64x1x4x128 .bf16) :
    (shapeCast S64x4x128 (rCode x) shapeCasts_S64x1x4x128_S64x4x128 : IVec S64x4x128 8)
      = fun i => FloatOps.fptosi (F := Ideal) (φ := .f32) 8 (qval (fun d => x (ix4 (i 0) (0 : Fin 1) (i 1) d)) (i 2)) := by
  funext i
  obtain ⟨b, n, d, rfl⟩ : ∃ (b : Fin 64) (n : Fin 4) (d : Fin 128), i = ix3 b n d := ⟨i 0, i 1, i 2, by idx_ext⟩
  pointwise
  exact rCode_at x b n d

/-- The scales of a new row, with a last axis of length one. -/
theorem scale_fun (x : FVec Ideal S64x1x4x128 .bf16) :
    (shapeCast S64x4x1 (rScale x) shapeCasts_S64x1x4_S64x4x1 : FVec Ideal S64x4x1 .f32)
      = fun i => qscale fun d => x (ix4 (i 0) (0 : Fin 1) (i 1) d) := by
  funext i
  obtain ⟨b, n, rfl⟩ : ∃ (b : Fin 64) (n : Fin 4), i = ix3 b n (0 : Fin 1) := ⟨i 0, i 1, by idx_ext⟩
  pointwise
  exact rScale_at x b n

end Cert.ReferenceIdeal.Attn
-- ==== Proof.RefRun.lean ====
module
public import proofs.«01_k».proof.Proof.RefResults
@[expose] public section
/-!
  What the reference's run leaves in its five results.
-/
set_option maxRecDepth 16384
noncomputable section
namespace Cert.ReferenceIdeal.Attn
open Cert.ReferenceIdeal Cert.ReferenceIdeal.Gen Cert.Attn Idealize.ShloMosaic Idealize.ShloMosaic.TcCoe Idealize.SL.Sem Idealize.ShloMosaic.StableHlo

/-- The attention of each batch row, as an array. -/
def yArr (q : FVec Ideal S64x1x4096 .bf16) (kn vn : FVec Ideal S64x1x4x128 .bf16) (kc vc : IVec S64x16384x4x128 8) (ks vs : FVec Ideal S64x16384x4 .f32) : FVec Ideal S64x32x128 .bf16 :=
  fun i => attn (fun h d => q (ix3 (i 0) (0 : Fin 1) (⟨128 * h.val + d.val, by omega⟩ : Fin 4096))) (fun t n d => kc (ix4 (i 0) t n d)) (fun t n => ks (ix3 (i 0) t n))
    (fun n d => kn (ix4 (i 0) (0 : Fin 1) n d)) (fun t n d => vc (ix4 (i 0) t n d)) (fun t n => vs (ix3 (i 0) t n)) (fun n d => vn (ix4 (i 0) (0 : Fin 1) n d)) (i 1) (i 2)

/-- The codes of a new row, as an array. -/
def codeArr (x : FVec Ideal S64x1x4x128 .bf16) : IVec S64x4x128 8 :=
  fun i => FloatOps.fptosi (F := Ideal) (φ := .f32) 8 (qval (fun d => x (ix4 (i 0) (0 : Fin 1) (i 1) d)) (i 2))

/-- The scales of a new row, as an array. -/
def scaleArr (x : FVec Ideal S64x1x4x128 .bf16) : FVec Ideal S64x4x1 .f32 :=
  fun i => qscale fun d => x (ix4 (i 0) (0 : Fin 1) (i 1) d)

variable (m : (ℓ : Loc nD τ sig) → Buf (Elt Ideal) ℓ) (c : Dev nD)

/-- The first result's printed term is the attention. -/
theorem res_y : Cert.ReferenceIdeal.Value.res_main_v83 (F := Ideal) m c
    = yArr (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg5)) (m ((c.tc : Thread nD τ).loc main_arg4)) (m ((c.tc : Thread nD τ).loc main_arg6)) :=
  (res_eq m c).trans (y_fun _ _ _ _ _ _ _)

/-- The reference ends with the attention, the new keys' codes and scales and the new values' codes and scales, its arguments as they were. -/
theorem run_arr (ρ : Dev nD → PrngReg) :
    θ_run defs (onTc (τ := τ) (main (F := Ideal))) ⟨m, fun _ => 0, ρ⟩ fun r => ∀ c : Dev nD,
      r.2.mem ((c.tc : Thread nD τ).loc main_v83) = yArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg4)) (m ((c.tc : Thread nD τ).loc main_arg6))
      ∧ r.2.mem ((c.tc : Thread nD τ).loc main_v84) = codeArr (m ((c.tc : Thread nD τ).loc main_arg1))
      ∧ r.2.mem ((c.tc : Thread nD τ).loc main_v85) = scaleArr (m ((c.tc : Thread nD τ).loc main_arg1))
      ∧ r.2.mem ((c.tc : Thread nD τ).loc main_v86) = codeArr (m ((c.tc : Thread nD τ).loc main_arg2))
      ∧ r.2.mem ((c.tc : Thread nD τ).loc main_v87) = scaleArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (res_y m c), (h c).2.1.trans (code_fun (m ((c.tc : Thread nD τ).loc main_arg1))), (h c).2.2.1.trans (scale_fun (m ((c.tc : Thread nD τ).loc main_arg1))),
    (h c).2.2.2.1.trans (code_fun (m ((c.tc : Thread nD τ).loc main_arg2))), (h c).2.2.2.2.1.trans (scale_fun (m ((c.tc : Thread nD τ).loc main_arg2))), (h c).2.2.2.2.2⟩)
    (Cert.ReferenceIdeal.Value.run m ρ)

/-- The reference leaves its arguments alone, and ends with every counter at zero: it has no semaphore. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2.2.2, sem_eq_zero_of_no_sems (by decide) r.2⟩) (run_arr m ρ)

end Cert.ReferenceIdeal.Attn
-- ==== Proof.Equation.lean ====
module
public import proofs.«01_k».proof.Proof.Finite
public import proofs.«01_k».proof.Proof.RefRun
public import proofs.«01_k».proof.Proof.Gen.KernelIdeal.Value
@[expose] public section
/-!
  The kernel's five results are the reference's five results.
-/
set_option maxRecDepth 16384
noncomputable section
namespace Cert.Proof
open Idealize.ShloMosaic Idealize.ShloMosaic.TcCoe Idealize.SL.Sem Cert.KernelIdeal.Attn Cert.ReferenceIdeal.Attn

attribute [local instance] Cert.KernelIdeal.Gen.facts Cert.ReferenceIdeal.Gen.facts Cert.Pre_value_scales_finite.Gen.facts

variable (m : (ℓ : Loc Cert.KernelIdeal.nD Cert.KernelIdeal.τ Cert.KernelIdeal.sig) → Buf (Elt Ideal) ℓ)
  (c : Dev Cert.KernelIdeal.nD)

/-- The query on device `c`. -/
abbrev a0 : FVec Ideal Cert.ReferenceIdeal.S64x1x4096 .bf16 := m ((c.tc : Thread Cert.KernelIdeal.nD Cert.KernelIdeal.τ).loc Cert.KernelIdeal.main_arg0)
/-- The new key on device `c`. -/
abbrev a1 : FVec Ideal Cert.ReferenceIdeal.S64x1x4x128 .bf16 := m ((c.tc : Thread Cert.KernelIdeal.nD Cert.KernelIdeal.τ).loc Cert.KernelIdeal.main_arg1)
/-- The new value on device `c`. -/
abbrev a2 : FVec Ideal Cert.ReferenceIdeal.S64x1x4x128 .bf16 := m ((c.tc : Thread Cert.KernelIdeal.nD Cert.KernelIdeal.τ).loc Cert.KernelIdeal.main_arg2)
/-- The cached key codes on device `c`. -/
abbrev a3 : IVec Cert.ReferenceIdeal.S64x16384x4x128 8 := m ((c.tc : Thread Cert.KernelIdeal.nD Cert.KernelIdeal.τ).loc Cert.KernelIdeal.main_arg3)
/-- The cached key scales on device `c`. -/
abbrev a4 : FVec Ideal Cert.ReferenceIdeal.S64x16384x4 .f32 := m ((c.tc : Thread Cert.KernelIdeal.nD Cert.KernelIdeal.τ).loc Cert.KernelIdeal.main_arg4)
/-- The cached value codes on device `c`. -/
abbrev a5 : IVec Cert.ReferenceIdeal.S64x16384x4x128 8 := m ((c.tc : Thread Cert.KernelIdeal.nD Cert.KernelIdeal.τ).loc Cert.KernelIdeal.main_arg5)
/-- The cached value scales on device `c`. -/
abbrev a6 : FVec Ideal Cert.ReferenceIdeal.S64x16384x4 .f32 := m ((c.tc : Thread Cert.KernelIdeal.nD Cert.KernelIdeal.τ).loc Cert.KernelIdeal.main_arg6)

/-- The kernel's first result array is the reference's. -/
theorem eq_y (hf : ∀ b i n, ∃ r : ℝ, rvs m c b i n = (r : EReal)) :
    yArr (a0 m c) (a1 m c) (a2 m c) (a3 m c) (a5 m c) (a4 m c) (a6 m c) = (Cert.KernelIdeal.Gen.dats m 0 c).arrAt 7 Cert.KernelIdeal.cfg0.N :=
  (arr_y m c hf).symm

/-- The kernel's second result array is the reference's. -/
theorem eq_knc : codeArr (a1 m c) = (Cert.KernelIdeal.Gen.dats m 0 c).arrAt 8 Cert.KernelIdeal.cfg0.N := (arr_knc m c).symm

/-- The kernel's third result array is the reference's. -/
theorem eq_kns : scaleArr (a1 m c) = (Cert.KernelIdeal.Gen.dats m 0 c).arrAt 9 Cert.KernelIdeal.cfg0.N := (arr_kns m c).symm

/-- The kernel's fourth result array is the reference's. -/
theorem eq_vnc : codeArr (a2 m c) = (Cert.KernelIdeal.Gen.dats m 0 c).arrAt 10 Cert.KernelIdeal.cfg0.N := (arr_vnc m c).symm

/-- The kernel's fifth result array is the reference's. -/
theorem eq_vns : scaleArr (a2 m c) = (Cert.KernelIdeal.Gen.dats m 0 c).arrAt 11 Cert.KernelIdeal.cfg0.N := (arr_vns m c).symm

/-- Equal arguments have equal attentions. -/
theorem yArr_congr {q q' : FVec Ideal Cert.ReferenceIdeal.S64x1x4096 .bf16} {kn kn' vn vn' : FVec Ideal Cert.ReferenceIdeal.S64x1x4x128 .bf16}
    {kc kc' vc vc' : IVec Cert.ReferenceIdeal.S64x16384x4x128 8} {ks ks' vs vs' : FVec Ideal Cert.ReferenceIdeal.S64x16384x4 .f32}
    (h0 : q = q') (h1 : kn = kn') (h2 : vn = vn') (h3 : kc = kc') (h5 : vc = vc') (h4 : ks = ks') (h6 : vs = vs') :
    yArr q kn vn kc vc ks vs = yArr q' kn' vn' kc' vc' ks' vs' := by
  subst h0 h1 h2 h3 h4 h5 h6; rfl

set_option maxHeartbeats 2000000 in
/-- From the same arguments, with no infinite value-cache scale, the kernel and the reference end with the same five results. -/
theorem algebraic : Cert.algebraic_KernelIdeal_ReferenceIdeal_pre_value_scales_finite := by
  pair_intro
  · run_from Cert.KernelIdeal.Gen.run_main m g
  · refine (θ_run Cert.ReferenceIdeal.defs _ _).mono (fun r h c => ?_) (Cert.ReferenceIdeal.Attn.run_arr m' g')
    obtain ⟨e0, e1, e2, e3, e4, e5, e6⟩ := hagree c
    obtain ⟨h0, h1, h2, h3, h4, hargs⟩ := h c
    exact ⟨h0.trans ((yArr_congr e0 e1 e2 e3 e5 e4 e6).trans (eq_y m c (scales_real m c hpre))), h1.trans ((congrArg codeArr e1).trans (eq_knc m c)),
      h2.trans ((congrArg scaleArr e1).trans (eq_kns m c)), h3.trans ((congrArg codeArr e2).trans (eq_vnc m c)), h4.trans ((congrArg scaleArr e2).trans (eq_vns m c)), hargs⟩

end Cert.Proof
-- ==== Proof.lean ====
/- The claim, assembled from the modules under Proof/:
     * the frame of the kernel at bit-exact and at real values, from the generated frame proofs;
     * the frame of the reference (Proof/RefRun.lean);
     * that the kernel's five results are the reference's five results (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel, run on machine values, terminates without fault and leaves its arguments and counters as they were. -/
theorem frame_kernel : Cert.quiescent_Kernel (hKernel := Cert.Kernel.Gen.facts) := fun m ρ _ => Cert.Kernel.Gen.frame m ρ

/-- The kernel, run on real values, terminates without fault and leaves its arguments and counters as they were. -/
theorem frame_kernelIdeal : Cert.quiescent_KernelIdeal (hKernelIdeal := Cert.KernelIdeal.Gen.facts) := fun m ρ _ => Cert.KernelIdeal.Gen.frame m ρ

/-- The same, under the precondition (which is not used). -/
theorem frame_kernelIdeal_pre : Cert.quiescent_KernelIdeal_pre_value_scales_finite (hKernelIdeal := Cert.KernelIdeal.Gen.facts)
    (hPre_value_scales_finite := Cert.Pre_value_scales_finite.Gen.facts) := fun m ρ _ => Cert.KernelIdeal.Gen.frame m ρ

/-- The reference, run on real values, terminates without fault and leaves its arguments and counters as they were. -/
theorem frame_reference : Cert.quiescent_ReferenceIdeal (hReferenceIdeal := Cert.ReferenceIdeal.Gen.facts) := fun m ρ _ => Cert.ReferenceIdeal.Attn.frame m ρ

/-- The same, under the precondition (which is not used). -/
theorem frame_reference_pre : Cert.quiescent_ReferenceIdeal_pre_value_scales_finite (hReferenceIdeal := Cert.ReferenceIdeal.Gen.facts)
    (hPre_value_scales_finite := Cert.Pre_value_scales_finite.Gen.facts) := fun m ρ _ => Cert.ReferenceIdeal.Attn.frame m ρ

/-- Everything claimed. -/
theorem claim : Cert.Claim :=
  ⟨Cert.Kernel.Gen.facts, Cert.KernelIdeal.Gen.facts, Cert.ReferenceIdeal.Gen.facts, Cert.Pre_value_scales_finite.Gen.facts,
    frame_kernel, frame_kernelIdeal, frame_kernelIdeal_pre, frame_reference, frame_reference_pre, trivial, algebraic⟩

end Cert.Proof

end
